-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_v176) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S1024x64 : Shape := ⟨2, ![1024, 64]⟩
abbrev S2560 : Shape := ⟨1, ![2560]⟩
abbrev S_ : Shape := ⟨0, ![]⟩
abbrev S64 : Shape := ⟨1, ![64]⟩
abbrev S64x1 : Shape := ⟨2, ![64, 1]⟩
abbrev S1x2560 : Shape := ⟨2, ![1, 2560]⟩
abbrev S64x2560 : Shape := ⟨2, ![64, 2560]⟩
abbrev S8x2560 : Shape := ⟨2, ![8, 2560]⟩
abbrev S2x2048x2560 : Shape := ⟨3, ![2, 2048, 2560]⟩
abbrev S8x128 : Shape := ⟨2, ![8, 128]⟩
abbrev S1x512x1024 : Shape := ⟨3, ![1, 512, 1024]⟩
abbrev S1x512x2560 : Shape := ⟨3, ![1, 512, 2560]⟩
abbrev S8x64 : Shape := ⟨2, ![8, 64]⟩
abbrev S512x1024 : Shape := ⟨2, ![512, 1024]⟩
abbrev S64x512 : Shape := ⟨2, ![64, 512]⟩
abbrev S512x64 : Shape := ⟨2, ![512, 64]⟩
abbrev S512 : Shape := ⟨1, ![512]⟩
abbrev S512x1 : Shape := ⟨2, ![512, 1]⟩
abbrev S512x32 : Shape := ⟨2, ![512, 32]⟩
abbrev S512x16 : Shape := ⟨2, ![512, 16]⟩
abbrev S512x8 : Shape := ⟨2, ![512, 8]⟩
abbrev S512x4 : Shape := ⟨2, ![512, 4]⟩
abbrev S512x2 : Shape := ⟨2, ![512, 2]⟩
abbrev S1x64 : Shape := ⟨2, ![1, 64]⟩
abbrev S64x64 : Shape := ⟨2, ![64, 64]⟩
abbrev S512x512 : Shape := ⟨2, ![512, 512]⟩
abbrev S512x2560 : Shape := ⟨2, ![512, 2560]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩
abbrev S2x2048x64x40 : Shape := ⟨4, ![2, 2048, 64, 40]⟩

abbrev nBuf : Space → Nat
  | .hbm => 60
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1024x64, .f32⟩
  | .hbm, ⟨2, _⟩ => ⟨S2560, .i32⟩
  | .hbm, ⟨3, _⟩ => ⟨S_, .i32⟩
  | .hbm, ⟨4, _⟩ => ⟨S_, .i32⟩
  | .hbm, ⟨5, _⟩ => ⟨S2560, .i32⟩
  | .hbm, ⟨6, _⟩ => ⟨S2560, .i32⟩
  | .hbm, ⟨7, _⟩ => ⟨S2560, .i32⟩
  | .hbm, ⟨8, _⟩ => ⟨S_, .i32⟩
  | .hbm, ⟨9, _⟩ => ⟨S2560, .i32⟩
  | .hbm, ⟨10, _⟩ => ⟨S2560, .i1⟩
  | .hbm, ⟨11, _⟩ => ⟨S2560, .i32⟩
  | .hbm, ⟨12, _⟩ => ⟨S2560, .i32⟩
  | .hbm, ⟨13, _⟩ => ⟨S_, .i32⟩
  | .hbm, ⟨14, _⟩ => ⟨S2560, .i32⟩
  | .hbm, ⟨15, _⟩ => ⟨S2560, .i1⟩
  | .hbm, ⟨16, _⟩ => ⟨S2560, .i1⟩
  | .hbm, ⟨17, _⟩ => ⟨S_, .i32⟩
  | .hbm, ⟨18, _⟩ => ⟨S2560, .i32⟩
  | .hbm, ⟨19, _⟩ => ⟨S2560, .i32⟩
  | .hbm, ⟨20, _⟩ => ⟨S2560, .i32⟩
  | .hbm, ⟨21, _⟩ => ⟨S64, .i32⟩
  | .hbm, ⟨22, _⟩ => ⟨S64x1, .i32⟩
  | .hbm, ⟨23, _⟩ => ⟨S1x2560, .i32⟩
  | .hbm, ⟨24, _⟩ => ⟨S64x2560, .i32⟩
  | .hbm, ⟨25, _⟩ => ⟨S64x2560, .i32⟩
  | .hbm, ⟨26, _⟩ => ⟨S64x2560, .i1⟩
  | .hbm, ⟨27, _⟩ => ⟨S64x2560, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S2560, .i32⟩
  | .hbm, ⟨35, _⟩ => ⟨S2560, .i32⟩
  | .hbm, ⟨36, _⟩ => ⟨S_, .i32⟩
  | .hbm, ⟨37, _⟩ => ⟨S2560, .i32⟩
  | .hbm, ⟨38, _⟩ => ⟨S2560, .i1⟩
  | .hbm, ⟨39, _⟩ => ⟨S_, .i32⟩
  | .hbm, ⟨40, _⟩ => ⟨S2560, .i32⟩
  | .hbm, ⟨41, _⟩ => ⟨S2560, .i1⟩
  | .hbm, ⟨42, _⟩ => ⟨S_, .i32⟩
  | .hbm, ⟨43, _⟩ => ⟨S_, .i1⟩
  | .hbm, ⟨44, _⟩ => ⟨S2560, .i1⟩
  | .hbm, ⟨45, _⟩ => ⟨S2560, .i1⟩
  | .hbm, ⟨46, _⟩ => ⟨S2560, .i1⟩
  | .hbm, ⟨47, _⟩ => ⟨S2560, .i32⟩
  | .hbm, ⟨48, _⟩ => ⟨S2560, .i32⟩
  | .hbm, ⟨49, _⟩ => ⟨S2560, .i32⟩
  | .hbm, ⟨50, _⟩ => ⟨S2560, .f32⟩
  | .hbm, ⟨51, _⟩ => ⟨S8x2560, .f32⟩
  | .hbm, ⟨52, _⟩ => ⟨S2x2048x2560, .f32⟩
  | .hbm, ⟨53, _⟩ => ⟨S2x2048x2560, .f32⟩
  | .hbm, ⟨54, _⟩ => ⟨S8x128, .f32⟩
  | .hbm, ⟨55, _⟩ => ⟨S2x2048x64x40, .f32⟩
  | .hbm, ⟨56, _⟩ => ⟨S2x2048x64x40, .f32⟩
  | .hbm, ⟨57, _⟩ => ⟨S1x1, .f32⟩
  | .hbm, ⟨58, _⟩ => ⟨S_, .f32⟩
  | .hbm, ⟨59, _⟩ => ⟨S_, .f32⟩
  | .local _ .vmem, ⟨0, _⟩ => ⟨S1x512x1024, .f32⟩
  | .local _ .vmem, ⟨1, _⟩ => ⟨S1x512x1024, .f32⟩
  | .local _ .vmem, ⟨2, _⟩ => ⟨S1024x64, .f32⟩
  | .local _ .vmem, ⟨3, _⟩ => ⟨S64x2560, .f32⟩
  | .local _ .vmem, ⟨4, _⟩ => ⟨S8x2560, .f32⟩
  | .local _ .vmem, ⟨5, _⟩ => ⟨S1x512x2560, .f32⟩
  | .local _ .vmem, ⟨6, _⟩ => ⟨S1x512x2560, .f32⟩
  | .local _ .vmem, ⟨7, _⟩ => ⟨S1x512x2560, .f32⟩
  | .local _ .vmem, ⟨8, _⟩ => ⟨S1x512x2560, .f32⟩
  | .local _ .vmem, ⟨9, _⟩ => ⟨S8x128, .f32⟩
  | .local _ .vmem, ⟨10, _⟩ => ⟨S8x64, .f32⟩
  | .local _ .vmem, ⟨11, _⟩ => ⟨S8x64, .f32⟩
  | .local _ .vmem, ⟨12, _⟩ => ⟨S8x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12_0 : Ref sig .tc := ⟨.hbm, 52, rfl⟩
abbrev main_v12_1 : Ref sig .tc := ⟨.hbm, 53, rfl⟩
abbrev main_v12_2 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v586 : BitVec 1 := Scalar.cmpi .eq arg1 c3_i32
  let v587 : BitVec 32 := Scalar.extui v586
  let c0_i32_186 : BitVec 32 := 0#32
  let v588 : BitVec 1 := Scalar.cmpi .ne v587 c0_i32_186
  v588

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S2x2048x1024 : Shape := ⟨3, ![2, 2048, 1024]⟩
abbrev S1024x64 : Shape := ⟨2, ![1024, 64]⟩
abbrev S2x2048x64 : Shape := ⟨3, ![2, 2048, 64]⟩
abbrev S_ : Shape := ⟨0, ![]⟩
abbrev S2x2048 : Shape := ⟨2, ![2, 2048]⟩
abbrev S2x2048x1 : Shape := ⟨3, ![2, 2048, 1]⟩
abbrev S2x2048x64x1 : Shape := ⟨4, ![2, 2048, 64, 1]⟩
abbrev S1 : Shape := ⟨1, ![1]⟩
abbrev S1x1x1x1 : Shape := ⟨4, ![1, 1, 1, 1]⟩
abbrev S64 : Shape := ⟨1, ![64]⟩
abbrev S1x1x64 : Shape := ⟨3, ![1, 1, 64]⟩
abbrev S2 : Shape := ⟨1, ![2]⟩
abbrev S2x1x1 : Shape := ⟨3, ![2, 1, 1]⟩
abbrev S2048 : Shape := ⟨1, ![2048]⟩
abbrev S1x2048x1 : Shape := ⟨3, ![1, 2048, 1]⟩
abbrev S2x2048x64x3 : Shape := ⟨4, ![2, 2048, 64, 3]⟩
abbrev S2x64x2048 : Shape := ⟨3, ![2, 64, 2048]⟩
abbrev S2x2048x64x40 : Shape := ⟨4, ![2, 2048, 64, 40]⟩
abbrev S2x2048x64x4 : Shape := ⟨4, ![2, 2048, 64, 4]⟩
abbrev S2x64 : Shape := ⟨2, ![2, 64]⟩

abbrev nBuf : Space → Nat
  | .hbm => 271
  | .vmem => 0
  | .smem => 0
  | _ => 0

abbrev hbmTy0_0 (i : Nat) : BufTy := match i % 128 with
  | 0 => ⟨S2x2048x1024, .f32⟩
  | 1 => ⟨S1024x64, .f32⟩
  | 2 => ⟨S2x2048x64, .f32⟩
  | 3 => ⟨S_, .f32⟩
  | 4 => ⟨S2x2048, .f32⟩
  | 5 => ⟨S_, .f32⟩
  | 6 => ⟨S2x2048, .f32⟩
  | 7 => ⟨S2x2048, .f32⟩
  | 8 => ⟨S2x2048x1, .f32⟩
  | 9 => ⟨S2x2048x64, .f32⟩
  | 10 => ⟨S2x2048x64, .f32⟩
  | 11 => ⟨S2x2048x64, .f32⟩
  | 12 => ⟨S_, .f32⟩
  | 13 => ⟨S2x2048, .f32⟩
  | 14 => ⟨S2x2048x1, .f32⟩
  | 15 => ⟨S2x2048x64, .f32⟩
  | 16 => ⟨S2x2048x64, .f32⟩
  | 17 => ⟨S2x2048x64, .f32⟩
  | 18 => ⟨S2x2048x64, .i32⟩
  | 19 => ⟨S2x2048x64, .f32⟩
  | 20 => ⟨S2x2048x64, .i32⟩
  | 21 => ⟨S_, .i32⟩
  | 22 => ⟨S2x2048x64, .i32⟩
  | 23 => ⟨S2x2048x64, .i1⟩
  | 24 => ⟨S_, .i32⟩
  | 25 => ⟨S2x2048x64, .i32⟩
  | 26 => ⟨S2x2048x64, .i32⟩
  | 27 => ⟨S2x2048x64, .i32⟩
  | 28 => ⟨S2x2048x64x1, .i32⟩
  | 29 => ⟨S1, .i32⟩
  | 30 => ⟨S_, .i32⟩
  | 31 => ⟨S2x2048x64x1, .i32⟩
  | 32 => ⟨S2x2048x64x1, .i1⟩
  | 33 => ⟨S1x1x1x1, .i32⟩
  | 34 => ⟨S2x2048x64x1, .i32⟩
  | 35 => ⟨S2x2048x64x1, .i1⟩
  | 36 => ⟨S2x2048x64x1, .i1⟩
  | 37 => ⟨S_, .i1⟩
  | 38 => ⟨S2x2048x64, .i1⟩
  | 39 => ⟨S2x2048x64, .f32⟩
  | 40 => ⟨S_, .f32⟩
  | 41 => ⟨S2x2048x64, .f32⟩
  | 42 => ⟨S2x2048x64, .f32⟩
  | 43 => ⟨S_, .f32⟩
  | 44 => ⟨S_, .f32⟩
  | 45 => ⟨S2x2048x64, .f32⟩
  | 46 => ⟨S_, .f32⟩
  | 47 => ⟨S2x2048x64, .f32⟩
  | 48 => ⟨S2x2048x64, .i1⟩
  | 49 => ⟨S_, .i32⟩
  | 50 => ⟨S1, .i32⟩
  | 51 => ⟨S_, .i1⟩
  | 52 => ⟨S2x2048, .i1⟩
  | 53 => ⟨S2x2048x64, .i1⟩
  | 54 => ⟨S2x2048x64, .i32⟩
  | 55 => ⟨S_, .i32⟩
  | 56 => ⟨S2x2048, .i32⟩
  | 57 => ⟨S_, .i32⟩
  | 58 => ⟨S2x2048, .i32⟩
  | 59 => ⟨S2x2048, .i32⟩
  | 60 => ⟨S64, .i32⟩
  | 61 => ⟨S1x1x64, .i32⟩
  | 62 => ⟨S2x2048x1, .i32⟩
  | 63 => ⟨S2x2048x64, .i32⟩
  | 64 => ⟨S2x2048x64, .i32⟩
  | 65 => ⟨S2x2048x64, .i1⟩
  | 66 => ⟨S_, .i32⟩
  | 67 => ⟨S_, .i32⟩
  | 68 => ⟨S2x2048x64, .i32⟩
  | 69 => ⟨S2x2048x64, .i32⟩
  | 70 => ⟨S_, .f32⟩
  | 71 => ⟨S_, .f32⟩
  | 72 => ⟨S2x2048x64, .f32⟩
  | 73 => ⟨S2x2048x64, .f32⟩
  | 74 => ⟨S_, .f32⟩
  | 75 => ⟨S2x2048, .f32⟩
  | 76 => ⟨S2x2048x1, .f32⟩
  | 77 => ⟨S_, .f32⟩
  | 78 => ⟨S2x2048x1, .f32⟩
  | 79 => ⟨S2x2048x1, .f32⟩
  | 80 => ⟨S2x2048x64, .f32⟩
  | 81 => ⟨S2x2048x64, .f32⟩
  | 82 => ⟨S_, .i32⟩
  | 83 => ⟨S2x2048x64, .i32⟩
  | 84 => ⟨S2x2048x64, .i1⟩
  | 85 => ⟨S_, .i32⟩
  | 86 => ⟨S2x2048x64, .i32⟩
  | 87 => ⟨S2x2048x64, .i32⟩
  | 88 => ⟨S2, .i32⟩
  | 89 => ⟨S2x1x1, .i32⟩
  | 90 => ⟨S2x2048x64, .i32⟩
  | 91 => ⟨S2048, .i32⟩
  | 92 => ⟨S1x2048x1, .i32⟩
  | 93 => ⟨S2x2048x64, .i32⟩
  | 94 => ⟨S_, .f32⟩
  | 95 => ⟨S2x2048x64, .f32⟩
  | 96 => ⟨S2x2048x64, .f32⟩
  | 97 => ⟨S_, .i32⟩
  | 98 => ⟨S2x2048x64, .i32⟩
  | 99 => ⟨S2x2048x64, .i1⟩
  | 100 => ⟨S_, .i32⟩
  | 101 => ⟨S2x2048x64, .i32⟩
  | 102 => ⟨S2x2048x64, .i32⟩
  | 103 => ⟨S2x2048x64, .i32⟩
  | 104 => ⟨S_, .i32⟩
  | 105 => ⟨S2x2048x64, .i32⟩
  | 106 => ⟨S2x2048x64, .i1⟩
  | 107 => ⟨S_, .i32⟩
  | 108 => ⟨S2x2048x64, .i32⟩
  | 109 => ⟨S2x2048x64, .i32⟩
  | 110 => ⟨S2x2048x64, .i32⟩
  | 111 => ⟨S_, .i32⟩
  | 112 => ⟨S2x2048x64, .i32⟩
  | 113 => ⟨S2x2048x64, .i1⟩
  | 114 => ⟨S_, .i32⟩
  | 115 => ⟨S2x2048x64, .i32⟩
  | 116 => ⟨S2x2048x64, .i32⟩
  | 117 => ⟨S2x2048x64, .i32⟩
  | 118 => ⟨S2x2048x64x1, .i32⟩
  | 119 => ⟨S2x2048x64x1, .i32⟩
  | 120 => ⟨S2x2048x64x1, .i32⟩
  | 121 => ⟨S2x2048x64x3, .i32⟩
  | 122 => ⟨S2x2048x64, .f32⟩
  | 123 => ⟨S_, .f32⟩
  | 124 => ⟨S2x2048x64, .f32⟩
  | 125 => ⟨S_, .i32⟩
  | 126 => ⟨S2x2048x64, .i32⟩
  | 127 => ⟨S2x2048x64, .i1⟩
  | _ => ⟨S2x2048x1024, .f32⟩

abbrev hbmTy0_1 (i : Nat) : BufTy := match i % 128 with
  | 0 => ⟨S_, .i32⟩
  | 1 => ⟨S2x2048x64, .i32⟩
  | 2 => ⟨S2x2048x64, .i32⟩
  | 3 => ⟨S2x2048x64, .i32⟩
  | 4 => ⟨S_, .i32⟩
  | 5 => ⟨S2x2048x64, .i32⟩
  | 6 => ⟨S2x2048x64, .i1⟩
  | 7 => ⟨S_, .i32⟩
  | 8 => ⟨S2x2048x64, .i32⟩
  | 9 => ⟨S2x2048x64, .i32⟩
  | 10 => ⟨S2x2048x64, .i32⟩
  | 11 => ⟨S_, .i32⟩
  | 12 => ⟨S2x2048x64, .i32⟩
  | 13 => ⟨S2x2048x64, .i1⟩
  | 14 => ⟨S_, .i32⟩
  | 15 => ⟨S2x2048x64, .i32⟩
  | 16 => ⟨S2x2048x64, .i32⟩
  | 17 => ⟨S2x2048x64, .i32⟩
  | 18 => ⟨S2x2048x64x1, .i32⟩
  | 19 => ⟨S2x2048x64x1, .i32⟩
  | 20 => ⟨S2x2048x64x1, .i32⟩
  | 21 => ⟨S2x2048x64x3, .i32⟩
  | 22 => ⟨S2x2048x64, .f32⟩
  | 23 => ⟨S_, .f32⟩
  | 24 => ⟨S2x2048x64, .f32⟩
  | 25 => ⟨S2x2048x64, .i1⟩
  | 26 => ⟨S2x2048x64, .f32⟩
  | 27 => ⟨S2x2048x64, .f32⟩
  | 28 => ⟨S2x64x2048, .f32⟩
  | 29 => ⟨S_, .f32⟩
  | 30 => ⟨S_, .f32⟩
  | 31 => ⟨S2x64x2048, .f32⟩
  | 32 => ⟨S2x64x2048, .f32⟩
  | 33 => ⟨S2x2048x64, .f32⟩
  | 34 => ⟨S_, .f32⟩
  | 35 => ⟨S2x2048x64, .f32⟩
  | 36 => ⟨S2x2048x64, .i1⟩
  | 37 => ⟨S_, .f32⟩
  | 38 => ⟨S2x2048x64, .f32⟩
  | 39 => ⟨S2x2048x64, .i1⟩
  | 40 => ⟨S2x2048x64, .i1⟩
  | 41 => ⟨S_, .f32⟩
  | 42 => ⟨S2x2048x64, .f32⟩
  | 43 => ⟨S2x2048x64, .f32⟩
  | 44 => ⟨S2x2048x64, .i32⟩
  | 45 => ⟨S64, .i32⟩
  | 46 => ⟨S1x1x64, .i32⟩
  | 47 => ⟨S2x2048x64, .i32⟩
  | 48 => ⟨S_, .i32⟩
  | 49 => ⟨S_, .i32⟩
  | 50 => ⟨S2x2048x64, .i32⟩
  | 51 => ⟨S2x2048x64, .i32⟩
  | 52 => ⟨S_, .f32⟩
  | 53 => ⟨S2x2048x64x40, .f32⟩
  | 54 => ⟨S_, .i32⟩
  | 55 => ⟨S2x2048x64, .i32⟩
  | 56 => ⟨S2x2048x64, .i1⟩
  | 57 => ⟨S_, .i32⟩
  | 58 => ⟨S2x2048x64, .i32⟩
  | 59 => ⟨S2x2048x64, .i32⟩
  | 60 => ⟨S2x2048x64, .i32⟩
  | 61 => ⟨S_, .i32⟩
  | 62 => ⟨S2x2048x64, .i32⟩
  | 63 => ⟨S2x2048x64, .i1⟩
  | 64 => ⟨S_, .i32⟩
  | 65 => ⟨S2x2048x64, .i32⟩
  | 66 => ⟨S2x2048x64, .i32⟩
  | 67 => ⟨S2x2048x64, .i32⟩
  | 68 => ⟨S_, .i32⟩
  | 69 => ⟨S2x2048x64, .i32⟩
  | 70 => ⟨S2x2048x64, .i1⟩
  | 71 => ⟨S_, .i32⟩
  | 72 => ⟨S2x2048x64, .i32⟩
  | 73 => ⟨S2x2048x64, .i32⟩
  | 74 => ⟨S2x2048x64, .i32⟩
  | 75 => ⟨S_, .i32⟩
  | 76 => ⟨S2x2048x64, .i32⟩
  | 77 => ⟨S2x2048x64, .i1⟩
  | 78 => ⟨S_, .i32⟩
  | 79 => ⟨S2x2048x64, .i32⟩
  | 80 => ⟨S2x2048x64, .i32⟩
  | 81 => ⟨S2x2048x64, .i32⟩
  | 82 => ⟨S2x2048x64x1, .i32⟩
  | 83 => ⟨S2x2048x64x1, .i32⟩
  | 84 => ⟨S2x2048x64x1, .i32⟩
  | 85 => ⟨S2x2048x64x1, .i32⟩
  | 86 => ⟨S2x2048x64x4, .i32⟩
  | 87 => ⟨S_, .f32⟩
  | 88 => ⟨S2x2048x64, .f32⟩
  | 89 => ⟨S2x2048x64x40, .f32⟩
  | 90 => ⟨S_, .f32⟩
  | 91 => ⟨S2x2048x64x40, .f32⟩
  | 92 => ⟨S_, .i32⟩
  | 93 => ⟨S2x2048x64, .i32⟩
  | 94 => ⟨S2x2048x64, .i1⟩
  | 95 => ⟨S_, .i32⟩
  | 96 => ⟨S2x2048x64, .i32⟩
  | 97 => ⟨S2x2048x64, .i32⟩
  | 98 => ⟨S2x2048x64, .i32⟩
  | 99 => ⟨S_, .i32⟩
  | 100 => ⟨S2x2048x64, .i32⟩
  | 101 => ⟨S2x2048x64, .i1⟩
  | 102 => ⟨S_, .i32⟩
  | 103 => ⟨S2x2048x64, .i32⟩
  | 104 => ⟨S2x2048x64, .i32⟩
  | 105 => ⟨S2x2048x64, .i32⟩
  | 106 => ⟨S_, .i32⟩
  | 107 => ⟨S2x2048x64, .i32⟩
  | 108 => ⟨S2x2048x64, .i1⟩
  | 109 => ⟨S_, .i32⟩
  | 110 => ⟨S2x2048x64, .i32⟩
  | 111 => ⟨S2x2048x64, .i32⟩
  | 112 => ⟨S2x2048x64, .i32⟩
  | 113 => ⟨S_, .i32⟩
  | 114 => ⟨S2x2048x64, .i32⟩
  | 115 => ⟨S2x2048x64, .i1⟩
  | 116 => ⟨S_, .i32⟩
  | 117 => ⟨S2x2048x64, .i32⟩
  | 118 => ⟨S2x2048x64, .i32⟩
  | 119 => ⟨S2x2048x64, .i32⟩
  | 120 => ⟨S2x2048x64x1, .i32⟩
  | 121 => ⟨S2x2048x64x1, .i32⟩
  | 122 => ⟨S2x2048x64x1, .i32⟩
  | 123 => ⟨S2x2048x64x1, .i32⟩
  | 124 => ⟨S2x2048x64x4, .i32⟩
  | 125 => ⟨S2x2048x64x40, .f32⟩
  | 126 => ⟨S_, .f32⟩
  | 127 => ⟨S2x64, .f32⟩
  | _ => ⟨S2x2048x1024, .f32⟩

abbrev hbmTy0_2 (i : Nat) : BufTy := match i % 128 with
  | 0 => ⟨S_, .f32⟩
  | 1 => ⟨S2x64, .f32⟩
  | 2 => ⟨S2x64, .f32⟩
  | 3 => ⟨S_, .f32⟩
  | 4 => ⟨S2x64, .f32⟩
  | 5 => ⟨S_, .f32⟩
  | 6 => ⟨S2x64, .f32⟩
  | 7 => ⟨S2x64, .f32⟩
  | 8 => ⟨S2x64, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_v1_0 : Ref sig .tc := ⟨.hbm, 19, rfl⟩
abbrev main_v13 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v14 : Ref sig .tc := ⟨.hbm, 42, rfl⟩
abbrev main_call2_call0_cst : Ref sig .tc := ⟨.hbm, 43, rfl⟩
abbrev main_call2_call0_v0 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_c : Ref sig .tc := ⟨.hbm, 49, rfl⟩
abbrev main_v18 : Ref sig .tc := ⟨.hbm, 50, rfl⟩
abbrev main_c_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_4 : Ref sig .tc := ⟨.hbm, 55, rfl⟩
abbrev main_v22 : Ref sig .tc := ⟨.hbm, 56, rfl⟩
abbrev main_c_5 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c_6 : Ref sig .tc := ⟨.hbm, 66, rfl⟩
abbrev main_call3_v0 : Ref sig .tc := ⟨.hbm, 67, rfl⟩
abbrev main_call3_v1 : Ref sig .tc := ⟨.hbm, 68, rfl⟩
abbrev main_v31 : Ref sig .tc := ⟨.hbm, 69, rfl⟩
abbrev main_cst_7 : Ref sig .tc := ⟨.hbm, 70, rfl⟩
abbrev main_call4_v0 : Ref sig .tc := ⟨.hbm, 71, rfl⟩
abbrev main_call4_v1 : Ref sig .tc := ⟨.hbm, 72, rfl⟩
abbrev main_v32 : Ref sig .tc := ⟨.hbm, 73, rfl⟩
abbrev main_cst_8 : Ref sig .tc := ⟨.hbm, 74, rfl⟩
abbrev main_v33 : Ref sig .tc := ⟨.hbm, 75, rfl⟩
abbrev main_v34 : Ref sig .tc := ⟨.hbm, 76, rfl⟩
abbrev main_cst_9 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_c_10 : Ref sig .tc := ⟨.hbm, 82, rfl⟩
abbrev main_v39 : Ref sig .tc := ⟨.hbm, 83, rfl⟩
abbrev main_v40 : Ref sig .tc := ⟨.hbm, 84, rfl⟩
abbrev main_c_11 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_12 : Ref sig .tc := ⟨.hbm, 94, rfl⟩
abbrev main_v49 : Ref sig .tc := ⟨.hbm, 95, rfl⟩
abbrev main_v50 : Ref sig .tc := ⟨.hbm, 96, rfl⟩
abbrev main_c_13 : Ref sig .tc := ⟨.hbm, 97, rfl⟩
abbrev main_v51 : Ref sig .tc := ⟨.hbm, 98, rfl⟩
abbrev main_v52 : Ref sig .tc := ⟨.hbm, 99, rfl⟩
abbrev main_c_14 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_c_15 : Ref sig .tc := ⟨.hbm, 104, rfl⟩
abbrev main_v56 : Ref sig .tc := ⟨.hbm, 105, rfl⟩
abbrev main_v57 : Ref sig .tc := ⟨.hbm, 106, rfl⟩
abbrev main_c_16 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_c_17 : Ref sig .tc := ⟨.hbm, 111, rfl⟩
abbrev main_v61 : Ref sig .tc := ⟨.hbm, 112, rfl⟩
abbrev main_v62 : Ref sig .tc := ⟨.hbm, 113, rfl⟩
abbrev main_c_18 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_19 : Ref sig .tc := ⟨.hbm, 123, rfl⟩
abbrev main_v71 : Ref sig .tc := ⟨.hbm, 124, rfl⟩
abbrev main_c_20 : Ref sig .tc := ⟨.hbm, 125, rfl⟩
abbrev main_v72 : Ref sig .tc := ⟨.hbm, 126, rfl⟩
abbrev main_v73 : Ref sig .tc := ⟨.hbm, 127, rfl⟩
abbrev main_c_21 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_c_22 : Ref sig .tc := ⟨.hbm, 132, rfl⟩
abbrev main_v77 : Ref sig .tc := ⟨.hbm, 133, rfl⟩
abbrev main_v78 : Ref sig .tc := ⟨.hbm, 134, rfl⟩
abbrev main_c_23 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_c_24 : Ref sig .tc := ⟨.hbm, 139, rfl⟩
abbrev main_v82 : Ref sig .tc := ⟨.hbm, 140, rfl⟩
abbrev main_v83 : Ref sig .tc := ⟨.hbm, 141, rfl⟩
abbrev main_c_25 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_cst_26 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_call5_call0_cst : Ref sig .tc := ⟨.hbm, 157, rfl⟩
abbrev main_call5_call0_v0 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_cst_27 : Ref sig .tc := ⟨.hbm, 162, rfl⟩
abbrev main_v100 : Ref sig .tc := ⟨.hbm, 163, rfl⟩
abbrev main_v101 : Ref sig .tc := ⟨.hbm, 164, rfl⟩
abbrev main_cst_28 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_cst_29 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_c_30 : Ref sig .tc := ⟨.hbm, 176, rfl⟩
abbrev main_call6_v0 : Ref sig .tc := ⟨.hbm, 177, rfl⟩
abbrev main_call6_v1 : Ref sig .tc := ⟨.hbm, 178, rfl⟩
abbrev main_v111 : Ref sig .tc := ⟨.hbm, 179, rfl⟩
abbrev main_cst_31 : Ref sig .tc := ⟨.hbm, 180, rfl⟩
abbrev main_v112 : Ref sig .tc := ⟨.hbm, 181, rfl⟩
abbrev main_c_32 : Ref sig .tc := ⟨.hbm, 182, rfl⟩
abbrev main_v113 : Ref sig .tc := ⟨.hbm, 183, rfl⟩
abbrev main_v114 : Ref sig .tc := ⟨.hbm, 184, rfl⟩
abbrev main_c_33 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_c_34 : Ref sig .tc := ⟨.hbm, 189, rfl⟩
abbrev main_v118 : Ref sig .tc := ⟨.hbm, 190, rfl⟩
abbrev main_v119 : Ref sig .tc := ⟨.hbm, 191, rfl⟩
abbrev main_c_35 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_c_36 : Ref sig .tc := ⟨.hbm, 196, rfl⟩
abbrev main_v123 : Ref sig .tc := ⟨.hbm, 197, rfl⟩
abbrev main_v124 : Ref sig .tc := ⟨.hbm, 198, rfl⟩
abbrev main_c_37 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_c_38 : Ref sig .tc := ⟨.hbm, 203, rfl⟩
abbrev main_v128 : Ref sig .tc := ⟨.hbm, 204, rfl⟩
abbrev main_v129 : Ref sig .tc := ⟨.hbm, 205, rfl⟩
abbrev main_c_39 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_cst_40 : Ref sig .tc := ⟨.hbm, 215, rfl⟩
abbrev main_v138 : Ref sig .tc := ⟨.hbm, 216, rfl⟩
abbrev main_v139 : Ref sig .tc := ⟨.hbm, 217, rfl⟩
abbrev main_cst_41 : Ref sig .tc := ⟨.hbm, 218, rfl⟩
abbrev main_v140 : Ref sig .tc := ⟨.hbm, 219, rfl⟩
abbrev main_c_42 : Ref sig .tc := ⟨.hbm, 220, rfl⟩
abbrev main_v141 : Ref sig .tc := ⟨.hbm, 221, rfl⟩
abbrev main_v142 : Ref sig .tc := ⟨.hbm, 222, rfl⟩
abbrev main_c_43 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_c_44 : Ref sig .tc := ⟨.hbm, 227, rfl⟩
abbrev main_v146 : Ref sig .tc := ⟨.hbm, 228, rfl⟩
abbrev main_v147 : Ref sig .tc := ⟨.hbm, 229, rfl⟩
abbrev main_c_45 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_c_46 : Ref sig .tc := ⟨.hbm, 234, rfl⟩
abbrev main_v151 : Ref sig .tc := ⟨.hbm, 235, rfl⟩
abbrev main_v152 : Ref sig .tc := ⟨.hbm, 236, rfl⟩
abbrev main_c_47 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_c_48 : Ref sig .tc := ⟨.hbm, 241, rfl⟩
abbrev main_v156 : Ref sig .tc := ⟨.hbm, 242, rfl⟩
abbrev main_v157 : Ref sig .tc := ⟨.hbm, 243, rfl⟩
abbrev main_c_49 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_cst_50 : Ref sig .tc := ⟨.hbm, 254, rfl⟩
abbrev main_v167 : Ref sig .tc := ⟨.hbm, 255, rfl⟩
abbrev main_cst_51 : Ref sig .tc := ⟨.hbm, 256, rfl⟩
abbrev main_v168 : Ref sig .tc := ⟨.hbm, 257, rfl⟩
abbrev main_v169 : Ref sig .tc := ⟨.hbm, 258, rfl⟩
abbrev main_cst_52 : Ref sig .tc := ⟨.hbm, 259, rfl⟩
abbrev main_v170 : Ref sig .tc := ⟨.hbm, 260, rfl⟩
abbrev main_cst_53 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_cst_54 : Ref sig .tc := ⟨.hbm, 265, rfl⟩
abbrev main_v174 : Ref sig .tc := ⟨.hbm, 266, rfl⟩
abbrev main_cst_55 : Ref sig .tc := ⟨.hbm, 267, rfl⟩
abbrev main_v175 : Ref sig .tc := ⟨.hbm, 268, rfl⟩
abbrev main_cst_56 : Ref sig .tc := ⟨.hbm, 269, rfl⟩
abbrev main_v176 : Ref sig .tc := ⟨.hbm, 270, rfl⟩

abbrev nD : Nat := 1
abbrev τ : Topo := Topo.v7x

variable {F : FTy → Type} [FloatOps F]
-- ==== Proof.Router.Setup.lean ====
module

public import proofs.«01_k».proof.Proof.Gen.KernelIdeal.Frame
public import proofs.«01_k».proof.Proof.Gen.KernelIdeal.Skeleton
public import Idealize.ShloMosaic.Lib.Pipeline.TableIdle

/-! # The set-up of the router kernel's run

The two branch conditions of the body as statements on the grid point, where the third output's block is idle,
and the memrefs the body is called on. -/

@[expose] public section

set_option maxRecDepth 16384

noncomputable section

namespace Cert.KernelIdeal.Hand
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid point starts a batch row: its second coordinate is 0. -/
abbrev atFirst (i : grid0.Coords) : Prop := (Scalar.cmpi .ne (Scalar.extui (Scalar.cmpi .eq (BitVec.ofNat 32 (i 1).val) 0#32)) 0#32) = 1#1

/-- When a point is the first of its batch row. -/
theorem atFirst_iff : ∀ t : Fin cfg0.N, atFirst (grid0.coords t) ↔ t.val % 4 = 0 := by
  decide +kernel

/-- The grid point ends a batch row: its second coordinate is 3. -/
abbrev atLast (i : grid0.Coords) : Prop := k0_cond2 i = 1#1

/-- When a point is the last of its batch row. -/
theorem atLast_iff : ∀ t : Fin cfg0.N, atLast (grid0.coords t) ↔ t.val % 4 = 3 := by
  decide +kernel

/-- The third output is idle at a point that does not end a batch row. -/
theorem idle6_of_not_last : ∀ t : Fin cfg0.N, ¬atLast (grid0.coords t) → cfg0.idle 6 (grid0.coords t) = true := by
  decide +kernel

/-- The loss is not written back before the last point of a batch row. -/
theorem noflush6_of_not_last : ∀ t : Fin cfg0.N, ¬atLast (grid0.coords t) → (cfg0.win 6).flush t = false := by
  decide +kernel

/-- The loss window is in use at the last point of a batch row. -/
theorem live6_of_last : ∀ t : Fin cfg0.N, atLast (grid0.coords t) → cfg0.idle 6 (grid0.coords t) = false := by
  decide +kernel

/-- Whether the third output's staging block holds nothing stored yet when point `n` begins: up to point 3, and
after the write-back at the end. -/
def blank6 : ℕ → Bool
  | 0 => true
  | n + 1 => (0x87 : ℕ).testBit n

/-- How the loss window stays blank from point to point. -/
theorem blank6_step : ∀ t : Fin cfg0.N,
    blank6 (t.val + 1) = ((cfg0.win 6).flush t || (cfg0.idle 6 (cfg0.grid.coords t) && blank6 t.val)) := by
  decide +kernel

/-- When the loss window is blank. -/
theorem fresh6_eq (t : Fin cfg0.N) : cfg0.fresh 6 t.val = blank6 t.val :=
  Pipeline.Cfg.fresh_tab cfg0 6 blank6 rfl blank6_step t.val (Nat.le_of_lt t.isLt)

/-! The memrefs of the windows at a point, and the three carried scratch arrays. -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2560 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x2560 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x2560 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
abbrev scM0_0 : Memref sig .tc .vmem S8x64 .f32 := Memref.whole cc0_scratch0
abbrev scM0_1 : Memref sig .tc .vmem S8x64 .f32 := Memref.whole cc0_scratch1
abbrev scM0_2 : Memref sig .tc .vmem S8x64 .f32 := Memref.whole cc0_scratch2

/-- The scratch arrays at any contents and the generator state, as the region hands them over. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.Router.Block.lean ====
module

public import proofs.«01_k».proof.Proof.Router.Setup

/-! # What one grid point computes

The values of the kernel's body at a point, as functions of the token block `x`, the weights `w`, the two lane
tables and the three carried arrays: the payloads of the body's stores, wired together as the body wires them. -/

@[expose] public section

set_option maxRecDepth 16384

noncomputable section

namespace Cert.KernelIdeal.Hand
open Cert.KernelIdeal.Gen
open Idealize.ShloMosaic Idealize.ShloMosaic.TcCoe

variable {F : FTy → Type} [FloatOps F]

/-- The lane numbers 0‥63. -/
def lanes : IVec S1x64 32 := iota .tc S1x64 32 [1] iota_S1x64_d1_w32

variable (x : Vec F S1x512x1024 .f32) (w : Vec F S1024x64 .f32)

/-- The gate probabilities of the block's tokens. -/
def prob : FVec F S512x64 .f32 := k0_pay6 x w

/-! The sorting network, cut where the body's parts are cut. -/
def netA : FVec F S512x64 .f32 := k0_pay10 (prob x w) lanes k0_pay7 k0_pay8 (k0_pay9 x w)
def netA1 : FVec F S512x64 .f32 := k0_pay13 (prob x w) lanes k0_pay7 k0_pay8 (k0_pay9 x w)
def netA2 : FVec F S512x64 .f32 := k0_pay14 (prob x w) lanes k0_pay7 k0_pay8 (k0_pay9 x w)
def netB1 : FVec F S512x64 .f32 := k0_pay18 lanes (netA x w) (k0_pay11 lanes) (k0_pay12 lanes) (netA1 x w) (netA2 x w)
def netB2 : FVec F S512x64 .f32 := k0_pay19 lanes (netA x w) (k0_pay11 lanes) (k0_pay12 lanes) (netA1 x w) (netA2 x w)
def netC : FVec F S512x64 .f32 := k0_pay21 lanes (netB1 x w) (netB2 x w) (k0_pay20 lanes)
def netD : FVec F S512x64 .f32 := k0_pay24 lanes (netC x w) (k0_pay22 lanes) k0_pay23
def netE : FVec F S512x64 .f32 := k0_pay28 lanes (netD x w) (k0_pay25 lanes) (k0_pay26 lanes) k0_pay27
def netE1 : FVec F S512x64 .f32 := k0_pay31 lanes (netD x w) (k0_pay25 lanes) (k0_pay26 lanes) k0_pay27
def netE2 : FVec F S512x64 .f32 := k0_pay32 lanes (netD x w) (k0_pay25 lanes) (k0_pay26 lanes) k0_pay27
def netF1 : FVec F S512x64 .f32 := k0_pay37 lanes (netE x w) (k0_pay29 lanes) (k0_pay30 lanes) (netE1 x w) (netE2 x w) (k0_pay33 lanes)
def netF2 : FVec F S512x64 .f32 := k0_pay38 lanes (netE x w) (k0_pay29 lanes) (k0_pay30 lanes) (netE1 x w) (netE2 x w) (k0_pay33 lanes)
def netG : FVec F S512x64 .f32 := k0_pay40 lanes (netF1 x w) (netF2 x w) (k0_pay39 lanes) (constantI S1x64 1 1#1)
def netH : FVec F S512x64 .f32 := k0_pay42 lanes (netG x w) k0_pay41
def netI : FVec F S512x64 .f32 := k0_pay45 lanes (netH x w) (k0_pay43 lanes) k0_pay44
def netI1 : FVec F S512x64 .f32 := k0_pay48 lanes (netH x w) (k0_pay43 lanes) k0_pay44

/-- The probabilities of each token in descending order. -/
def sorted : FVec F S512x64 .f32 := k0_pay49 (netI x w) (k0_pay46 lanes) (k0_pay47 lanes) (netI1 x w)

/-- How many experts each token takes. -/
def count : FVec F S512x1 .f32 := k0_pay51 lanes (netI x w) (k0_pay46 lanes) (k0_pay47 lanes) (netI1 x w)
def countL : FVec F S512x64 .f32 := k0_pay52 lanes (netI x w) (k0_pay46 lanes) (k0_pay47 lanes) (netI1 x w)

/-- Which experts each token takes, as 0 and 1. -/
def keep : FVec F S512x64 .f32 := k0_pay53 (prob x w) lanes (sorted x w) k0_pay50 (count x w) (countL x w)

/-- The weights of the experts taken. -/
def weight : FVec F S512x64 .f32 := k0_pay54 (prob x w) lanes (sorted x w) k0_pay50 (count x w) (countL x w)

/-- The first row of a carried array. -/
def row0 (s : Vec F S8x64 .f32) : Vec F S1x64 .f32 := View.ld s (Rect.unit ![0, 0] S1x64.size inb_S8x64_S1x64_0_0)

/-- Each token's place in the queues of the experts, after the tokens counted in `s`. -/
def place (s : Vec F S8x64 .f32) : FVec F S512x64 .f32 :=
  k0_pay55 (prob x w) lanes (sorted x w) k0_pay50 (count x w) (countL x w) (row0 s)

/-- How many of the block's tokens each expert gets. -/
def taken : FVec F S1x64 .f32 := k0_pay56 (prob x w) lanes (sorted x w) k0_pay50 (count x w) (countL x w)

/-- The queue lengths after the block. -/
def carryNext (s : Vec F S8x64 .f32) : FVec F S8x64 .f32 :=
  k0_pay58 (k0_pay57 (prob x w) lanes (sorted x w) k0_pay50 (count x w) (countL x w) (row0 s))

/-- The running count of tokens per expert. -/
def maskNext (s : Vec F S8x64 .f32) : FVec F S8x64 .f32 := k0_pay63 (taken x w) s

/-- The running sum of probabilities per expert. -/
def probNext (s : Vec F S8x64 .f32) : FVec F S8x64 .f32 := k0_pay1 (prob x w) s

/-- The lane table's first row. -/
def lane0 (q : Vec F S8x2560 .f32) : Vec F S1x2560 .f32 := View.ld q (Rect.unit ![0, 0] S1x2560.size inb_S8x2560_S1x2560_0_0)

/-- The dispatch block. -/
def dispBlock (r : Vec F S64x2560 .f32) (q : Vec F S8x2560 .f32) (s : Vec F S8x64 .f32) : FVec F S1x512x2560 .f32 :=
  k0_pay61 (keep x w) (place x w s) r (lane0 q)

/-- The combine block. -/
def combBlock (r : Vec F S64x2560 .f32) (q : Vec F S8x2560 .f32) (s : Vec F S8x64 .f32) : FVec F S1x512x2560 .f32 :=
  k0_pay62 (keep x w) (weight x w) (place x w s) r (lane0 q)

/-- The first entry of the loss block. -/
def corner (a : Vec F S8x128 .f32) : Vec F S1x1 .f32 := View.ld a (Rect.unit ![0, 0] ![1, 1] inb_S8x128_S1x1_0_0)

/-- The loss block after batch row `b`, from the accumulated counts and probabilities and the block before. -/
def auxBlock (b : BitVec 32) (sm sp : Vec F S8x64 .f32) (a : Vec F S8x128 .f32) : FVec F S8x128 .f32 :=
  k0_pay2 b (row0 sm) (row0 sp) (corner a)

end Cert.KernelIdeal.Hand

end
-- ==== Proof.Router.RunA.lean ====
module

public import proofs.«01_k».proof.Proof.Router.Block
public import Idealize.ShloMosaic.Lib.VecWindow

/-! # The body's run at the first point of a batch row

The kernel's body on any whole staging memrefs: what it leaves in every buffer, in terms of the values of
`Router/Block.lean`. -/

@[expose] public section

set_option maxRecDepth 16384

noncomputable section

namespace Cert.KernelIdeal.Hand
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- At a point that starts a batch row the carried arrays are reset first. -/
theorem runA (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x2560 .f32) (harg4 : arg4.IsWhole) (arg5 : Memref sig .tc .vmem S8x2560 .f32) (harg5 : arg5.IsWhole) (arg6 : Memref sig .tc .vmem S1x512x2560 .f32) (harg6 : arg6.IsWhole) (arg7 : Memref sig .tc .vmem S1x512x2560 .f32) (harg7 : arg7.IsWhole) (arg8 : Memref sig .tc .vmem S8x128 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (hc0 : atFirst i) (hc1 : ¬atLast i)
    (x : Vec F S1x512x1024 .f32) (w : Vec F S1024x64 .f32) (r : Vec F S64x2560 .f32) (q : Vec F S8x2560 .f32) (a : Vec F S8x128 .f32) (E : Set ℕ) (K : PUnit → sProp 𝕄) :
    iprop(owns (c : Thread nD τ) arg2 fullShare x ∗ owns (c : Thread nD τ) arg3 fullShare w ∗ owns (c : Thread nD τ) arg4 fullShare r ∗ owns (c : Thread nD τ) arg5 fullShare q ∗ (∃ d, owns (c : Thread nD τ) arg6 fullShare d) ∗ (∃ d, owns (c : Thread nD τ) arg7 fullShare d) ∗ owns (c : Thread nD τ) arg8 fullShare a ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x ∗ owns (c : Thread nD τ) arg3 fullShare w ∗ owns (c : Thread nD τ) arg4 fullShare r ∗ owns (c : Thread nD τ) arg5 fullShare q ∗ owns (c : Thread nD τ) arg6 fullShare (dispBlock x w r q k0_pay3) ∗ owns (c : Thread nD τ) arg7 fullShare (combBlock x w r q k0_pay3) ∗ owns (c : Thread nD τ) arg8 fullShare a ∗ owns (c : Thread nD τ) arg9 fullShare (carryNext x w k0_pay3) ∗ owns (c : Thread nD τ) arg10 fullShare (maskNext x w k0_pay4) ∗ owns (c : Thread nD τ) arg11 fullShare (probNext x w k0_pay5)) -∗ K ⟨⟩))
      ⊢ wp frame (wpE (defs₀ (F := F)) Variants.none c none) E (cc0__router_kernel i arg2 harg2 arg3 harg3 arg4 harg4 arg5 harg5 arg6 harg6 arg7 harg7 arg8 harg8 arg9 harg9 arg10 harg10 arg11 harg11) K := by
  simp only [cc0__router_kernel_eq_skeleton]; unfold cc0__router_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%e0, %fs0, -, HS0⟩, ⟨%e1, %fs1, -, HS1⟩, ⟨%e2, %fs2, -, HS2⟩, Hk⟩
  obtain rfl := harg2.eq_unread hf0; obtain rfl := harg3.eq_unread hf1; obtain rfl := harg4.eq_unread hf2; obtain rfl := harg5.eq_unread hf3; obtain rfl := harg8.eq_unread hf6
  have hx : (View.readAt (Elt F) arg2.view (Rect.unit ![0, 0, 0] S1x512x1024.size inb_S1x512x1024_S1x512x1024_0_0_0).toLoadRect (harg2.unread x)) = x := (View.readAt_full arg2.view (harg2.unread x) _).trans (harg2.read_unread x)
  have hw : (View.readAt (Elt F) arg3.view (Rect.unit ![0, 0] S1024x64.size inb_S1024x64_S1024x64_0_0).toLoadRect (harg3.unread w)) = w := (View.readAt_full arg3.view (harg3.unread w) _).trans (harg3.read_unread w)
  have hr : (View.readAt (Elt F) arg4.view (Rect.unit ![0, 0] S64x2560.size inb_S64x2560_S64x2560_0_0).toLoadRect (harg4.unread r)) = r := (View.readAt_full arg4.view (harg4.unread r) _).trans (harg4.read_unread r)
  have hq : View.readAt (Elt F) arg5.view (Rect.unit (s := S8x2560) ![0, 0] S1x2560.size inb_S8x2560_S1x2560_0_0).toLoadRect (harg5.unread q) = lane0 q := congrArg lane0 (harg5.read_unread q)
  have h0 : (View.read (Elt F) arg9.view (arg9.view.writes (Elt F) arg9.view.junk [(⟨Rect.unit ![0, 0] S8x64.size inb_S8x64_S8x64_0_0, k0_pay3⟩ : View.Piece (Elt F) S8x64 .f32)])) = k0_pay3 := View.read_writes_full _ _ _ _ _
  have h1 : (arg10.view.readCov [(⟨Rect.unit ![0, 0] S8x64.size inb_S8x64_S8x64_0_0, k0_pay4⟩ : View.Piece (Elt F) S8x64 .f32)] (Rect.unit ![0, 0] S8x64.size inb_S8x64_S8x64_0_0).toLoadRect) = k0_pay4 := View.readCov_full _ _ _ _ _
  have h2 : (arg11.view.readCov [(⟨Rect.unit ![0, 0] S8x64.size inb_S8x64_S8x64_0_0, k0_pay5⟩ : View.Piece (Elt F) S8x64 .f32)] (Rect.unit ![0, 0] S8x64.size inb_S8x64_S8x64_0_0).toLoadRect) = k0_pay5 := View.readCov_full _ _ _ _ _
  sl_exec (disch := first | sl_exact hc0 | sl_exact hc1)
  sl_step
  iapply Hk
  isplitl [H0]
  · iexists _; isplitr; swap
    · iexact H0
    ipureintro; exact harg2.read_unread _
  isplitl [H1]
  · iexists _; isplitr; swap
    · iexact H1
    ipureintro; exact harg3.read_unread _
  isplitl [H2]
  · iexists _; isplitr; swap
    · iexact H2
    ipureintro; exact harg4.read_unread _
  isplitl [H3]
  · iexists _; isplitr; swap
    · iexact H3
    ipureintro; exact harg5.read_unread _
  isplitl [H4]
  · iexists _; isplitr; swap
    · iexact H4
    ipureintro
    refine (View.read_writes_full _ _ _ _ _).trans ?_
    change dispBlock x w r q (View.read (Elt F) arg9.view (arg9.view.writes (Elt F) arg9.view.junk [(⟨Rect.unit ![0, 0] S8x64.size inb_S8x64_S8x64_0_0, k0_pay3⟩ : View.Piece (Elt F) S8x64 .f32)])) = _
    rw [h0]
  isplitl [H5]
  · iexists _; isplitr; swap
    · iexact H5
    ipureintro
    refine (View.read_writes_full _ _ _ _ _).trans ?_
    change combBlock x w r q (View.read (Elt F) arg9.view (arg9.view.writes (Elt F) arg9.view.junk [(⟨Rect.unit ![0, 0] S8x64.size inb_S8x64_S8x64_0_0, k0_pay3⟩ : View.Piece (Elt F) S8x64 .f32)])) = _
    rw [h0]
  isplitl [H6]
  · iexists _; isplitr; swap
    · iexact H6
    ipureintro; exact harg8.read_unread _
  isplitl [HS0]
  · iexists _; isplitr; swap
    · iexact HS0
    ipureintro
    refine (View.read_writes_full _ _ _ _ _).trans ?_
    change carryNext x w (View.read (Elt F) arg9.view (arg9.view.writes (Elt F) arg9.view.junk [(⟨Rect.unit ![0, 0] S8x64.size inb_S8x64_S8x64_0_0, k0_pay3⟩ : View.Piece (Elt F) S8x64 .f32)])) = _
    rw [h0]
  isplitl [HS1]
  · iexists _; isplitr; swap
    · iexact HS1
    ipureintro
    refine (View.read_writes_full _ _ _ _ _).trans ?_
    exact rfl
  iexists _; isplitr; swap
  · iexact HS2
  ipureintro
  refine (View.read_writes_full _ _ _ _ _).trans ?_
  exact rfl

end Cert.KernelIdeal.Hand

end
-- ==== Proof.Router.RunB.lean ====
module

public import proofs.«01_k».proof.Proof.Router.RunA
public import Idealize.ShloMosaic.Lib.VecWindow

/-! # The body's run at an inner point of a batch row

The kernel's body on any whole staging memrefs: what it leaves in every buffer, in terms of the values of
`Router/Block.lean`. -/

@[expose] public section

set_option maxRecDepth 16384

noncomputable section

namespace Cert.KernelIdeal.Hand
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- At a point inside a batch row the carried arrays go on from the contents they had. -/
theorem runB (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x2560 .f32) (harg4 : arg4.IsWhole) (arg5 : Memref sig .tc .vmem S8x2560 .f32) (harg5 : arg5.IsWhole) (arg6 : Memref sig .tc .vmem S1x512x2560 .f32) (harg6 : arg6.IsWhole) (arg7 : Memref sig .tc .vmem S1x512x2560 .f32) (harg7 : arg7.IsWhole) (arg8 : Memref sig .tc .vmem S8x128 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (hc0 : ¬atFirst i) (hc1 : ¬atLast i)
    (x : Vec F S1x512x1024 .f32) (w : Vec F S1024x64 .f32) (r : Vec F S64x2560 .f32) (q : Vec F S8x2560 .f32) (a : Vec F S8x128 .f32) (s0 s1 s2 : Vec F S8x64 .f32) (E : Set ℕ) (K : PUnit → sProp 𝕄) :
    iprop(owns (c : Thread nD τ) arg2 fullShare x ∗ owns (c : Thread nD τ) arg3 fullShare w ∗ owns (c : Thread nD τ) arg4 fullShare r ∗ owns (c : Thread nD τ) arg5 fullShare q ∗ (∃ d, owns (c : Thread nD τ) arg6 fullShare d) ∗ (∃ d, owns (c : Thread nD τ) arg7 fullShare d) ∗ owns (c : Thread nD τ) arg8 fullShare a ∗ owns (c : Thread nD τ) arg9 fullShare s0 ∗ owns (c : Thread nD τ) arg10 fullShare s1 ∗ owns (c : Thread nD τ) arg11 fullShare s2
        ∗ (iprop(owns (c : Thread nD τ) arg2 fullShare x ∗ owns (c : Thread nD τ) arg3 fullShare w ∗ owns (c : Thread nD τ) arg4 fullShare r ∗ owns (c : Thread nD τ) arg5 fullShare q ∗ owns (c : Thread nD τ) arg6 fullShare (dispBlock x w r q s0) ∗ owns (c : Thread nD τ) arg7 fullShare (combBlock x w r q s0) ∗ owns (c : Thread nD τ) arg8 fullShare a ∗ owns (c : Thread nD τ) arg9 fullShare (carryNext x w s0) ∗ owns (c : Thread nD τ) arg10 fullShare (maskNext x w s1) ∗ owns (c : Thread nD τ) arg11 fullShare (probNext x w s2)) -∗ K ⟨⟩))
      ⊢ wp frame (wpE (defs₀ (F := F)) Variants.none c none) E (cc0__router_kernel i arg2 harg2 arg3 harg3 arg4 harg4 arg5 harg5 arg6 harg6 arg7 harg7 arg8 harg8 arg9 harg9 arg10 harg10 arg11 harg11) K := by
  simp only [cc0__router_kernel_eq_skeleton]; unfold cc0__router_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg8.eq_unread hf6; obtain rfl := harg9.eq_unread hfs0; obtain rfl := harg10.eq_unread hfs1; obtain rfl := harg11.eq_unread hfs2
  have hx : (View.readAt (Elt F) arg2.view (Rect.unit ![0, 0, 0] S1x512x1024.size inb_S1x512x1024_S1x512x1024_0_0_0).toLoadRect (harg2.unread x)) = x := (View.readAt_full arg2.view (harg2.unread x) _).trans (harg2.read_unread x)
  have hw : (View.readAt (Elt F) arg3.view (Rect.unit ![0, 0] S1024x64.size inb_S1024x64_S1024x64_0_0).toLoadRect (harg3.unread w)) = w := (View.readAt_full arg3.view (harg3.unread w) _).trans (harg3.read_unread w)
  have hr : (View.readAt (Elt F) arg4.view (Rect.unit ![0, 0] S64x2560.size inb_S64x2560_S64x2560_0_0).toLoadRect (harg4.unread r)) = r := (View.readAt_full arg4.view (harg4.unread r) _).trans (harg4.read_unread r)
  have hq : View.readAt (Elt F) arg5.view (Rect.unit (s := S8x2560) ![0, 0] S1x2560.size inb_S8x2560_S1x2560_0_0).toLoadRect (harg5.unread q) = lane0 q := congrArg lane0 (harg5.read_unread q)
  have h0 : View.readAt (Elt F) arg9.view (Rect.unit (s := S8x64) ![0, 0] S1x64.size inb_S8x64_S1x64_0_0).toLoadRect (harg9.unread s0) = row0 s0 := congrArg row0 (harg9.read_unread s0)
  have h1 : (View.readAt (Elt F) arg10.view (Rect.unit ![0, 0] S8x64.size inb_S8x64_S8x64_0_0).toLoadRect (harg10.unread s1)) = s1 := (View.readAt_full arg10.view (harg10.unread s1) _).trans (harg10.read_unread s1)
  have h2 : (View.readAt (Elt F) arg11.view (Rect.unit ![0, 0] S8x64.size inb_S8x64_S8x64_0_0).toLoadRect (harg11.unread s2)) = s2 := (View.readAt_full arg11.view (harg11.unread s2) _).trans (harg11.read_unread s2)
  sl_exec (disch := first | sl_exact hc0 | sl_exact hc1)
  sl_step
  iapply Hk
  isplitl [H0]
  · iexists _; isplitr; swap
    · iexact H0
    ipureintro; exact harg2.read_unread _
  isplitl [H1]
  · iexists _; isplitr; swap
    · iexact H1
    ipureintro; exact harg3.read_unread _
  isplitl [H2]
  · iexists _; isplitr; swap
    · iexact H2
    ipureintro; exact harg4.read_unread _
  isplitl [H3]
  · iexists _; isplitr; swap
    · iexact H3
    ipureintro; exact harg5.read_unread _
  isplitl [H4]
  · iexists _; isplitr; swap
    · iexact H4
    ipureintro
    refine (View.read_writes_full _ _ _ _ _).trans ?_
    exact rfl
  isplitl [H5]
  · iexists _; isplitr; swap
    · iexact H5
    ipureintro
    refine (View.read_writes_full _ _ _ _ _).trans ?_
    exact rfl
  isplitl [H6]
  · iexists _; isplitr; swap
    · iexact H6
    ipureintro; exact harg8.read_unread _
  isplitl [HS0]
  · iexists _; isplitr; swap
    · iexact HS0
    ipureintro
    refine (View.read_writes_full _ _ _ _ _).trans ?_
    exact rfl
  isplitl [HS1]
  · iexists _; isplitr; swap
    · iexact HS1
    ipureintro
    refine (View.read_writes_full _ _ _ _ _).trans ?_
    exact rfl
  iexists _; isplitr; swap
  · iexact HS2
  ipureintro
  refine (View.read_writes_full _ _ _ _ _).trans ?_
  exact rfl

end Cert.KernelIdeal.Hand

end
-- ==== Proof.Router.RunC.lean ====
module

public import proofs.«01_k».proof.Proof.Router.RunB
public import Idealize.ShloMosaic.Lib.VecWindow

/-! # The body's run at the last point of a batch row

The kernel's body on any whole staging memrefs: what it leaves in every buffer, in terms of the values of
`Router/Block.lean`. -/

@[expose] public section

set_option maxRecDepth 16384

noncomputable section

namespace Cert.KernelIdeal.Hand
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- At a point that ends a batch row the loss block is updated too. -/
theorem runC (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x2560 .f32) (harg4 : arg4.IsWhole) (arg5 : Memref sig .tc .vmem S8x2560 .f32) (harg5 : arg5.IsWhole) (arg6 : Memref sig .tc .vmem S1x512x2560 .f32) (harg6 : arg6.IsWhole) (arg7 : Memref sig .tc .vmem S1x512x2560 .f32) (harg7 : arg7.IsWhole) (arg8 : Memref sig .tc .vmem S8x128 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (hc0 : ¬atFirst i) (hc1 : atLast i)
    (x : Vec F S1x512x1024 .f32) (w : Vec F S1024x64 .f32) (r : Vec F S64x2560 .f32) (q : Vec F S8x2560 .f32) (a : Vec F S8x128 .f32) (s0 s1 s2 : Vec F S8x64 .f32) (E : Set ℕ) (K : PUnit → sProp 𝕄) :
    iprop(owns (c : Thread nD τ) arg2 fullShare x ∗ owns (c : Thread nD τ) arg3 fullShare w ∗ owns (c : Thread nD τ) arg4 fullShare r ∗ owns (c : Thread nD τ) arg5 fullShare q ∗ (∃ d, owns (c : Thread nD τ) arg6 fullShare d) ∗ (∃ d, owns (c : Thread nD τ) arg7 fullShare d) ∗ owns (c : Thread nD τ) arg8 fullShare a ∗ owns (c : Thread nD τ) arg9 fullShare s0 ∗ owns (c : Thread nD τ) arg10 fullShare s1 ∗ owns (c : Thread nD τ) arg11 fullShare s2
        ∗ (iprop(owns (c : Thread nD τ) arg2 fullShare x ∗ owns (c : Thread nD τ) arg3 fullShare w ∗ owns (c : Thread nD τ) arg4 fullShare r ∗ owns (c : Thread nD τ) arg5 fullShare q ∗ owns (c : Thread nD τ) arg6 fullShare (dispBlock x w r q s0) ∗ owns (c : Thread nD τ) arg7 fullShare (combBlock x w r q s0) ∗ owns (c : Thread nD τ) arg8 fullShare (auxBlock (BitVec.ofNat 32 (i 0).val) (maskNext x w s1) (probNext x w s2) a) ∗ owns (c : Thread nD τ) arg9 fullShare (carryNext x w s0) ∗ owns (c : Thread nD τ) arg10 fullShare (maskNext x w s1) ∗ owns (c : Thread nD τ) arg11 fullShare (probNext x w s2)) -∗ K ⟨⟩))
      ⊢ wp frame (wpE (defs₀ (F := F)) Variants.none c none) E (cc0__router_kernel i arg2 harg2 arg3 harg3 arg4 harg4 arg5 harg5 arg6 harg6 arg7 harg7 arg8 harg8 arg9 harg9 arg10 harg10 arg11 harg11) K := by
  simp only [cc0__router_kernel_eq_skeleton]; unfold cc0__router_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg8.eq_unread hf6; obtain rfl := harg9.eq_unread hfs0; obtain rfl := harg10.eq_unread hfs1; obtain rfl := harg11.eq_unread hfs2
  have hx : (View.readAt (Elt F) arg2.view (Rect.unit ![0, 0, 0] S1x512x1024.size inb_S1x512x1024_S1x512x1024_0_0_0).toLoadRect (harg2.unread x)) = x := (View.readAt_full arg2.view (harg2.unread x) _).trans (harg2.read_unread x)
  have hw : (View.readAt (Elt F) arg3.view (Rect.unit ![0, 0] S1024x64.size inb_S1024x64_S1024x64_0_0).toLoadRect (harg3.unread w)) = w := (View.readAt_full arg3.view (harg3.unread w) _).trans (harg3.read_unread w)
  have hr : (View.readAt (Elt F) arg4.view (Rect.unit ![0, 0] S64x2560.size inb_S64x2560_S64x2560_0_0).toLoadRect (harg4.unread r)) = r := (View.readAt_full arg4.view (harg4.unread r) _).trans (harg4.read_unread r)
  have hq : View.readAt (Elt F) arg5.view (Rect.unit (s := S8x2560) ![0, 0] S1x2560.size inb_S8x2560_S1x2560_0_0).toLoadRect (harg5.unread q) = lane0 q := congrArg lane0 (harg5.read_unread q)
  have h0 : View.readAt (Elt F) arg9.view (Rect.unit (s := S8x64) ![0, 0] S1x64.size inb_S8x64_S1x64_0_0).toLoadRect (harg9.unread s0) = row0 s0 := congrArg row0 (harg9.read_unread s0)
  have ha : View.readAt (Elt F) arg8.view (Rect.unit (s := S8x128) ![0, 0] ![1, 1] inb_S8x128_S1x1_0_0).toLoadRect (harg8.unread a) = corner a := congrArg corner (harg8.read_unread a)
  have h1 : (View.readAt (Elt F) arg10.view (Rect.unit ![0, 0] S8x64.size inb_S8x64_S8x64_0_0).toLoadRect (harg10.unread s1)) = s1 := (View.readAt_full arg10.view (harg10.unread s1) _).trans (harg10.read_unread s1)
  have h2 : (View.readAt (Elt F) arg11.view (Rect.unit ![0, 0] S8x64.size inb_S8x64_S8x64_0_0).toLoadRect (harg11.unread s2)) = s2 := (View.readAt_full arg11.view (harg11.unread s2) _).trans (harg11.read_unread s2)
  sl_exec (disch := first | sl_exact hc0 | sl_exact hc1)
  sl_step
  iapply Hk
  isplitl [H0]
  · iexists _; isplitr; swap
    · iexact H0
    ipureintro; exact harg2.read_unread _
  isplitl [H1]
  · iexists _; isplitr; swap
    · iexact H1
    ipureintro; exact harg3.read_unread _
  isplitl [H2]
  · iexists _; isplitr; swap
    · iexact H2
    ipureintro; exact harg4.read_unread _
  isplitl [H3]
  · iexists _; isplitr; swap
    · iexact H3
    ipureintro; exact harg5.read_unread _
  isplitl [H4]
  · iexists _; isplitr; swap
    · iexact H4
    ipureintro
    refine (View.read_writes_full _ _ _ _ _).trans ?_
    exact rfl
  isplitl [H5]
  · iexists _; isplitr; swap
    · iexact H5
    ipureintro
    refine (View.read_writes_full _ _ _ _ _).trans ?_
    exact rfl
  isplitl [H6]
  · iexists _; isplitr; swap
    · iexact H6
    ipureintro
    refine (View.read_writes_full _ _ _ _ _).trans ?_
    change auxBlock (BitVec.ofNat 32 (i 0).val) (View.read (Elt F) arg10.view (arg10.view.writes (Elt F) arg10.view.junk [(⟨Rect.unit ![0, 0] S8x64.size inb_S8x64_S8x64_0_0, maskNext x w s1⟩ : View.Piece (Elt F) S8x64 .f32)])) (View.read (Elt F) arg11.view (arg11.view.writes (Elt F) arg11.view.junk [(⟨Rect.unit ![0, 0] S8x64.size inb_S8x64_S8x64_0_0, probNext x w s2⟩ : View.Piece (Elt F) S8x64 .f32)])) a = _
    rw [View.read_writes_full, View.read_writes_full]
  isplitl [HS0]
  · iexists _; isplitr; swap
    · iexact HS0
    ipureintro
    refine (View.read_writes_full _ _ _ _ _).trans ?_
    exact rfl
  isplitl [HS1]
  · iexists _; isplitr; swap
    · iexact HS1
    ipureintro
    refine (View.read_writes_full _ _ _ _ _).trans ?_
    exact rfl
  iexists _; isplitr; swap
  · iexact HS2
  ipureintro
  refine (View.read_writes_full _ _ _ _ _).trans ?_
  exact rfl

end Cert.KernelIdeal.Hand

end
-- ==== Proof.Router.Run.lean ====
module

public import proofs.«01_k».proof.Proof.Router.RunC
public import Idealize.ShloMosaic.Lib.Claim

/-! # The kernel's run

What every buffer holds after each of the eight grid points, the body's obligation at every point, and the whole
program's run. -/

@[expose] public section

set_option maxRecDepth 16384

noncomputable section

namespace Cert.KernelIdeal.Hand
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents after each point -/

/-- The grid point with number `n`. -/
def pt (n : ℕ) : Fin cfg0.N := ⟨n % 8, by rw [show cfg0.N = 8 from N_0]; omega⟩

/-- A grid point is the point of its number. -/
theorem pt_val (t : Fin cfg0.N) : pt t.val = t := by
  have hN : t.val < 8 := lt_of_lt_of_eq t.isLt (show cfg0.N = 8 from N_0)
  exact Fin.ext (Nat.mod_eq_of_lt hN)

/-- The three carried arrays together: queue lengths, counts, probability sums. -/
structure Carried (F : FTy → Type) [FloatOps F] where
  queue : Vec F S8x64 .f32
  mask : Vec F S8x64 .f32
  prob : Vec F S8x64 .f32

/-- The carried arrays as a batch row starts. -/
def reset : Carried F := ⟨k0_pay3, k0_pay4, k0_pay5⟩

/-- The token block and the weights at a point, and the two lane tables. -/
abbrev xAt (c : Dev nD) (t : Fin cfg0.N) : Vec F S1x512x1024 .f32 := iblk m c 0 t
abbrev wAt (c : Dev nD) (t : Fin cfg0.N) : Vec F S1024x64 .f32 := iblk m c 1 t
abbrev rAt (c : Dev nD) (t : Fin cfg0.N) : Vec F S64x2560 .f32 := iblk m c 2 t
abbrev qAt (c : Dev nD) (t : Fin cfg0.N) : Vec F S8x2560 .f32 := iblk m c 3 t

/-- One point's effect on the carried arrays. -/
def advance (c : Dev nD) (t : Fin cfg0.N) (s : Carried F) : Carried F :=
  ⟨carryNext (xAt m c t) (wAt m c t) s.queue, maskNext (xAt m c t) (wAt m c t) s.mask, probNext (xAt m c t) (wAt m c t) s.prob⟩

/-- The carried arrays after point `n`. -/
def after (c : Dev nD) : ℕ → Carried F
  | 0 => advance m c (pt 0) reset
  | n + 1 => advance m c (pt (n + 1)) (if (n + 1) % 4 = 0 then reset else after c n)

/-- The carried arrays that point `n` works on. -/
def held (c : Dev nD) : ℕ → Carried F
  | 0 => reset
  | n + 1 => if (n + 1) % 4 = 0 then reset else after m c n

/-- What a point leaves, from what it finds. -/
theorem after_eq (c : Dev nD) (n : ℕ) : after m c n = advance m c (pt n) (held m c n) := by
  cases n <;> rfl

/-- The same at a grid point. -/
theorem after_eq' (c : Dev nD) (t : Fin cfg0.N) : after m c t.val = advance m c t (held m c t.val) := by
  rw [after_eq, pt_val]

/-- The first point of a batch row starts from zeros. -/
theorem held_first (c : Dev nD) (n : ℕ) (h : n % 4 = 0) : held m c n = reset := by
  cases n with
  | zero => rfl
  | succ n => exact if_pos h

/-- A later point finds what the point before left. -/
theorem held_inner (c : Dev nD) (n : ℕ) (h : ¬n % 4 = 0) : held m c n = after m c (n - 1) := by
  cases n with
  | zero => exact absurd rfl h
  | succ n => exact if_neg h

/-- The loss block after point `n` (before the first batch row ends: anything). -/
def loss (c : Dev nD) : ℕ → Vec F S8x128 .f32
  | 0 => broadcast S8x128 (Scalar.ofBits .f32 0x00000000#32)
  | n + 1 => if (n + 1) % 4 = 3 then
      auxBlock (BitVec.ofNat 32 (grid0.coords (pt (n + 1)) 0).val) (after m c (n + 1)).mask (after m c (n + 1)).prob (loss c n)
    else loss c n

/-- The last point of a batch row writes the loss. -/
theorem loss_last (c : Dev nD) (t : Fin cfg0.N) (h : t.val % 4 = 3) : loss m c t.val
    = auxBlock (BitVec.ofNat 32 (grid0.coords t 0).val) (after m c t.val).mask (after m c t.val).prob (loss m c (t.val - 1)) := by
  obtain ⟨n, hn⟩ := t
  cases n with
  | zero => exact absurd (show 0 = 3 from h) (by decide)
  | succ n => exact (if_pos h).trans (by rw [show pt (n + 1) = ⟨n + 1, hn⟩ from pt_val ⟨n + 1, hn⟩]; rfl)

/-- The other points leave the loss as it was. -/
theorem loss_other (c : Dev nD) (n : ℕ) (hz : n ≠ 0) (h : ¬n % 4 = 3) : loss m c n = loss m c (n - 1) := by
  cases n with
  | zero => exact absurd rfl hz
  | succ n => exact if_neg h

/-- In the first batch row the loss block before does not matter. -/
theorem auxBlock_zero (sm sp : Vec F S8x64 .f32) (a a' : Vec F S8x128 .f32) : auxBlock 0#32 sm sp a = auxBlock 0#32 sm sp a' := rfl

/-! ## The pipeline's proof data -/

/-- The carried arrays between points. -/
def Inv (c : Dev nD) : (n : ℕ) → n ≤ cfg0.N → sProp 𝕄
  | 0, _ => Pipeline.ΦA spec0 c
  | n + 1, _ => iprop(iprop(owns (c : Thread nD τ) scM0_0 fullShare (after m c n).queue ∗ owns (c : Thread nD τ) scM0_1 fullShare (after m c n).mask ∗ owns (c : Thread nD τ) scM0_2 fullShare (after m c n).prob) ∗ (∃ r, prngReg c r))

/-- The invariant before the first point. -/
theorem Inv_zero (c : Dev nD) (n : ℕ) (h : n ≤ cfg0.N) (hz : n = 0) : Inv m c n h = Pipeline.ΦA spec0 c := by
  subst hz; rfl

/-- The invariant before a later point. -/
theorem Inv_pos (c : Dev nD) (n : ℕ) (h : n ≤ cfg0.N) (hz : n ≠ 0) :
    Inv m c n h = iprop(iprop(owns (c : Thread nD τ) scM0_0 fullShare (after m c (n - 1)).queue ∗ owns (c : Thread nD τ) scM0_1 fullShare (after m c (n - 1)).mask ∗ owns (c : Thread nD τ) scM0_2 fullShare (after m c (n - 1)).prob) ∗ (∃ r, prngReg c r)) := by
  cases n with
  | zero => exact absurd rfl hz
  | succ n => rfl

/-- The arrays as the region finds them, what the body leaves in each window, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dispBlock (xAt m c t) (wAt m c t) (rAt m c t) (qAt m c t) (held m c t.val).queue
    | ⟨5, _⟩ => combBlock (xAt m c t) (wAt m c t) (rAt m c t) (qAt m c t) (held m c t.val).queue
    | ⟨6, _⟩ => loss m c t.val
  Φ t := Inv m c t.val (Nat.le_of_lt_succ t.isLt)
  q _ := fullShare
  owed _ := 0

/-- The arrays as launched. -/
theorem A_eq (c : Dev nD) (w : Fin cfg0.W) : (dats m 0 c).A w = V m c (Pipeline.arrRef spec0 w) := by
  dsimp only [dats]

/-- The invariant before a point. -/
theorem Inv_castSucc (c : Dev nD) (t : Fin cfg0.N) :
    (dats m 0 c).Φ t.castSucc = Inv m c t.val (Nat.le_of_lt t.isLt) := by
  dsimp only [dats]; exact Pipeline.Dat.Φ_castSucc (Inv m c) t

/-- What a point leaves in window 0. -/
theorem left0 (c : Dev nD) (t : Fin cfg0.N) : (dats m 0 c).after 0 t = iblk m c 0 t := by dsimp only [dats]
/-- What a point leaves in window 1. -/
theorem left1 (c : Dev nD) (t : Fin cfg0.N) : (dats m 0 c).after 1 t = iblk m c 1 t := by dsimp only [dats]
/-- What a point leaves in window 2. -/
theorem left2 (c : Dev nD) (t : Fin cfg0.N) : (dats m 0 c).after 2 t = iblk m c 2 t := by dsimp only [dats]
/-- What a point leaves in window 3. -/
theorem left3 (c : Dev nD) (t : Fin cfg0.N) : (dats m 0 c).after 3 t = iblk m c 3 t := by dsimp only [dats]
/-- What a point leaves in window 4. -/
theorem left4 (c : Dev nD) (t : Fin cfg0.N) : (dats m 0 c).after 4 t
    = dispBlock (xAt m c t) (wAt m c t) (rAt m c t) (qAt m c t) (held m c t.val).queue := by dsimp only [dats]
/-- What a point leaves in window 5. -/
theorem left5 (c : Dev nD) (t : Fin cfg0.N) : (dats m 0 c).after 5 t
    = combBlock (xAt m c t) (wAt m c t) (rAt m c t) (qAt m c t) (held m c t.val).queue := by dsimp only [dats]
/-- What a point leaves in window 6. -/
theorem left6 (c : Dev nD) (t : Fin cfg0.N) : (dats m 0 c).after 6 t = loss m c t.val := by dsimp only [dats]

/-- What a point finds in window 0. -/
theorem found0 (c : Dev nD) (t : Fin cfg0.N) (d) : (dats m 0 c).before 0 t d = iblk m c 0 t :=
  before0_0_of m (dats m 0 c) (A_eq m c 0) (left0 m c) t d
/-- What a point finds in window 1. -/
theorem found1 (c : Dev nD) (t : Fin cfg0.N) (d) : (dats m 0 c).before 1 t d = iblk m c 1 t :=
  before0_1_of m (dats m 0 c) (A_eq m c 1) (left1 m c) t d
/-- What a point finds in window 2. -/
theorem found2 (c : Dev nD) (t : Fin cfg0.N) (d) : (dats m 0 c).before 2 t d = iblk m c 2 t :=
  before0_2_of m (dats m 0 c) (A_eq m c 2) (left2 m c) t d
/-- What a point finds in window 3. -/
theorem found3 (c : Dev nD) (t : Fin cfg0.N) (d) : (dats m 0 c).before 3 t d = iblk m c 3 t :=
  before0_3_of m (dats m 0 c) (A_eq m c 3) (left3 m c) t d

/-- The loss block stays through the points that do not end a batch row. -/
theorem loss_stays (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t hz hi _
  rw [left6, left6]
  refine loss_other m c t.val hz fun h => ?_
  rw [live6_of_last t ((atLast_iff t).mpr h)] at hi
  exact absurd hi Bool.false_ne_true

/-- So at the end of a batch row the block the body leaves is `loss`, whatever its staging buffer held in the first one. -/
theorem aux_leaves (c : Dev nD) (t : Fin cfg0.N) (h1 : t.val % 4 = 3) (d) :
    auxBlock (BitVec.ofNat 32 (grid0.coords t 0).val) (after m c t.val).mask (after m c t.val).prob ((dats m 0 c).before 6 t d)
      = loss m c t.val := by
  rw [loss_last m c t h1]
  have hN : t.val < 8 := lt_of_lt_of_eq t.isLt (show cfg0.N = 8 from N_0)
  have e0 : (grid0.coords t 0).val = t.val / 4 % 2 := Pipeline.Grid.coords_val t 0 (by decide) rfl
  rcases (by omega : t.val = 3 ∨ t.val = 7) with h | h
  · have hb : (grid0.coords t 0).val = 0 := by rw [e0, h]
    rw [hb]; exact auxBlock_zero _ _ _ _
  · rw [Dat.before_out_traj _ 6 rfl (fun _ _ => rfl) (loss_stays m c) t.val t rfl d, if_neg (by rw [fresh6_eq, h]; decide)]
    dsimp only [dats]

/-! ## The body at every point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- The windows that a point leaves live. -/
theorem leaves_live (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t)
    ∧ (dats m 0 c).leavesExact 4 t = owns (c : Thread nD τ) (ms0_4 t) fullShare (dispBlock (xAt m c t) (wAt m c t) (rAt m c t) (qAt m c t) (held m c t.val).queue)
    ∧ (dats m 0 c).leavesExact 5 t = owns (c : Thread nD τ) (ms0_5 t) fullShare (combBlock (xAt m c t) (wAt m c t) (rAt m c t) (qAt m c t) (held m c t.val).queue) := by
  refine ⟨?_, ?_, ?_, ?_, ?_, ?_⟩
  · rw [← left0]
  · rw [← left1]
  · rw [← left2]
  · rw [← left3]
  · rw [← left4]
  · rw [← left5]

set_option maxHeartbeats 9600000 in
/-- The body at any point takes the buffers from what the point finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3]
  obtain ⟨l0, l1, l2, l3, l4, l5⟩ := leaves_live m c t
  rw [l0, l1, l2, l3, l4, l5]
  rw [show (dats m 0 c).owesAt () t.succ = (dats m 0 c).owesAt () t.castSucc from rfl]
  rw [show (dats m 0 c).Φ t.succ = Inv m c (t.val + 1) t.isLt from rfl, Inv_pos m c _ _ (Nat.succ_ne_zero _), Nat.succ_sub_one]
  rw [Inv_castSucc m c t]
  have hN : t.val < 8 := lt_of_lt_of_eq t.isLt (show cfg0.N = 8 from N_0)
  by_cases h0 : t.val % 4 = 0
  · have h1 : ¬t.val % 4 = 3 := by omega
    have hs : advance m c t reset = after m c t.val := by rw [after_eq', held_first m c _ h0]
    rw [Dat.leavesExact_idle (dats m 0 c) 6 t (idle6_of_not_last t fun h => h1 ((atLast_iff t).mp h)) (noflush6_of_not_last t fun h => h1 ((atLast_iff t).mp h))]
    rw [held_first m c _ h0, ← hs]
    by_cases hz : t.val = 0
    · rw [Inv_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) scM0_2 (Memref.isWhole_whole _) ((atFirst_iff t).mpr h0) (fun h => h1 ((atLast_iff t).mp h)) (iblk m c 0 t) (iblk m c 1 t) (iblk m c 2 t) (iblk m c 3 t) ((dats m 0 c).before 6 t d6) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Inv_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) scM0_2 (Memref.isWhole_whole _) ((atFirst_iff t).mpr h0) (fun h => h1 ((atLast_iff t).mp h)) (iblk m c 0 t) (iblk m c 1 t) (iblk m c 2 t) (iblk m c 3 t) ((dats m 0 c).before 6 t d6) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have hs : advance m c t (after m c (t.val - 1)) = after m c t.val := by rw [after_eq', held_inner m c _ h0]
    rw [Inv_pos m c _ _ hz, held_inner m c _ h0]
    by_cases h1 : t.val % 4 = 3
    · rw [show (dats m 0 c).leavesExact 6 t = owns (c : Thread nD τ) (ms0_6 t) fullShare (loss m c t.val) from by
        rw [← left6]; unfold Dat.leavesExact; rw [live6_of_last t ((atLast_iff t).mpr h1)]]
      have ha := aux_leaves m c t h1
      rw [← hs] at ha ⊢
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (runC c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) scM0_2 (Memref.isWhole_whole _) (fun h => h0 ((atFirst_iff t).mp h)) ((atLast_iff t).mpr h1) (iblk m c 0 t) (iblk m c 1 t) (iblk m c 2 t) (iblk m c 3 t) ((dats m 0 c).before 6 t d6) (after m c (t.val - 1)).queue (after m c (t.val - 1)).mask (after m c (t.val - 1)).prob Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [← ha d6]; iexact H6
    · rw [Dat.leavesExact_idle (dats m 0 c) 6 t (idle6_of_not_last t fun h => h1 ((atLast_iff t).mp h)) (noflush6_of_not_last t fun h => h1 ((atLast_iff t).mp h))]
      rw [← hs]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) scM0_2 (Memref.isWhole_whole _) (fun h => h0 ((atFirst_iff t).mp h)) (fun h => h1 ((atLast_iff t).mp h)) (iblk m c 0 t) (iblk m c 1 t) (iblk m c 2 t) (iblk m c 3 t) ((dats m 0 c).before 6 t d6) (after m c (t.val - 1)).queue (after m c (t.val - 1)).mask (after m c (t.val - 1)).prob Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- A point's row of the region is its body. -/
theorem row_eq (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- The launch gives the invariant. -/
theorem enter (c : Dev nD) : Pipeline.ΦA spec0 c ⊢ (dats m 0 c).Φ 0 := by
  rw [show (dats m 0 c).Φ 0 = Inv m c 0 (Nat.zero_le _) from rfl, Inv_zero m c 0 _ rfl]

/-- The invariant gives the end state. -/
theorem leave (c : Dev nD) : (dats m 0 c).Φ (Fin.last cfg0.N) ⊢ Pipeline.ΦA spec0 c := by
  rw [show (dats m 0 c).Φ (Fin.last cfg0.N) = Inv m c cfg0.N (Nat.le_refl _) from rfl,
    Inv_pos m c _ _ (by rw [show cfg0.N = 8 from N_0]; decide), PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
/-- The program's run: every pipeline array ends at what the points' blocks make of it, every other buffer as the
host operations after the region leave it, and every semaphore at zero. -/
theorem run : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The arguments end as they were, and every semaphore at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Hand

end
-- ==== Proof.Router.Bitonic.lean ====
module

public import Mathlib.Order.Lattice
public import Mathlib.Order.Defs.LinearOrder
public import Mathlib.Data.Fintype.Card
public import Mathlib.Data.Fintype.BigOperators
public import Mathlib.Data.Nat.Bitwise
public import Mathlib.Algebra.BigOperators.Fin
public import Mathlib.Tactic.IntervalCases
public import Mathlib.Tactic.FinCases
public import Mathlib.Tactic.Ring

/-! # The sorting network

The kernel sorts the 64 lanes of a row in descending order by the bitonic network. A comparison of two lanes commutes with
every threshold, so it is enough to follow rows of truth values, and these are followed block by block: after the
phase with number `k`, each run of `k` lanes is a block of trues and a block of falses. -/

@[expose] public section

namespace Cert.Router

/-- One stage of the network at lane `i`: lane `i` is compared with lane `i xor j`, and keeps the larger value or the
smaller one. -/
def stage {α : Type*} [LinearOrder α] (k j : ℕ) (a : ℕ → α) (i : ℕ) : α :=
  if (i &&& j = 0 ↔ i &&& k = 0) then max (a i) (a (i ^^^ j)) else min (a i) (a (i ^^^ j))

/-- The same on truth values. -/
def bstage (k j : ℕ) (a : ℕ → Bool) (i : ℕ) : Bool :=
  if (i &&& j = 0 ↔ i &&& k = 0) then (a i || a (i ^^^ j)) else (a i && a (i ^^^ j))

/-- The network's stages, in order. -/
def stages : List (ℕ × ℕ) :=
  [(2, 1), (4, 2), (4, 1), (8, 4), (8, 2), (8, 1), (16, 8), (16, 4), (16, 2), (16, 1),
    (32, 16), (32, 8), (32, 4), (32, 2), (32, 1), (64, 32), (64, 16), (64, 8), (64, 4), (64, 2), (64, 1)]

/-- A list of stages, one after the other. -/
def runStages {α : Type*} [LinearOrder α] (l : List (ℕ × ℕ)) (a : ℕ → α) : ℕ → α :=
  l.foldl (fun a s => stage s.1 s.2 a) a

/-- The same on truth values. -/
def brunStages (l : List (ℕ × ℕ)) (a : ℕ → Bool) : ℕ → Bool :=
  l.foldl (fun a s => bstage s.1 s.2 a) a

/-- A threshold commutes with a stage, -/
theorem decide_stage {α : Type*} [LinearOrder α] (t : α) (k j : ℕ) (a : ℕ → α) :
    (fun i => decide (t ≤ stage k j a i)) = bstage k j (fun i => decide (t ≤ a i)) := by
  funext i
  unfold stage bstage
  split
  · simp [le_max_iff]
  · simp [le_min_iff]

/-- and with all of them. -/
theorem decide_runStages {α : Type*} [LinearOrder α] (t : α) (l : List (ℕ × ℕ)) (a : ℕ → α) :
    (fun i => decide (t ≤ runStages l a i)) = brunStages l (fun i => decide (t ≤ a i)) := by
  induction l generalizing a with
  | nil => rfl
  | cons s l ih =>
    show (fun i => decide (t ≤ runStages l (stage s.1 s.2 a) i)) = brunStages l (bstage s.1 s.2 (fun i => decide (t ≤ a i)))
    rw [ih, decide_stage]

/-! ## One block of lanes -/

/-- One stage inside a block of lanes that all sort the same way (`d`: descending). -/
def lstage (d : Bool) (j : ℕ) (a : ℕ → Bool) (r : ℕ) : Bool :=
  if (r &&& j = 0 ↔ d = true) then (a r || a (r ^^^ j)) else (a r && a (r ^^^ j))

/-- A list of them. -/
def lrun (d : Bool) (js : List ℕ) (a : ℕ → Bool) : ℕ → Bool := js.foldl (fun a j => lstage d j a) a

/-- The lanes below 64 whose bit `j` is zero (or one), as the bits of a number. -/
def low (j : ℕ) : ℕ := (List.range 64).foldl (fun n i => if i &&& j = 0 then n ||| (1 <<< i) else n) 0
def high (j : ℕ) : ℕ := (List.range 64).foldl (fun n i => if i &&& j = 0 then n else n ||| (1 <<< i)) 0

/-- The other lane of a lane's comparison, on the bits of a number. -/
def npart (j B C n : ℕ) : ℕ := ((n >>> j) &&& B) ||| ((n <<< j) &&& C)

/-- One stage on the bits of a number. -/
def nstage (d : Bool) (j B C n : ℕ) : ℕ :=
  bif d then ((n ||| npart j B C n) &&& B) ||| ((n &&& npart j B C n) &&& C)
  else ((n ||| npart j B C n) &&& C) ||| ((n &&& npart j B C n) &&& B)

/-- The mask of the lanes whose bit is clear. -/
theorem testBit_low : ∀ j ∈ [1, 2, 4, 8, 16, 32], ∀ i < 64, (low j).testBit i = decide (i &&& j = 0) := by decide +kernel
/-- The mask of the lanes whose bit is set. -/
theorem testBit_high : ∀ j ∈ [1, 2, 4, 8, 16, 32], ∀ i < 64, (high j).testBit i = !decide (i &&& j = 0) := by decide +kernel
/-- The partner of a lane whose bit is clear lies above it. -/
theorem xor_of_low : ∀ j ∈ [1, 2, 4, 8, 16, 32], ∀ i < 64, i &&& j = 0 → i ^^^ j = j + i := by decide +kernel
/-- The partner of a lane whose bit is set lies below it. -/
theorem xor_of_high : ∀ j ∈ [1, 2, 4, 8, 16, 32], ∀ i < 64, ¬i &&& j = 0 → j ≤ i ∧ i ^^^ j = i - j := by decide +kernel
/-- A partner is a lane. -/
theorem xor_lt : ∀ j ∈ [1, 2, 4, 8, 16, 32], ∀ i < 64, i ^^^ j < 64 := by decide +kernel

/-- The stage on numbers does what the stage on bits does. -/
theorem testBit_nstage (d : Bool) (j : ℕ) (hj : j ∈ [1, 2, 4, 8, 16, 32]) (n i : ℕ) (hi : i < 64) :
    (nstage d j (low j) (high j) n).testBit i = lstage d j n.testBit i := by
  have hB := testBit_low j hj i hi
  have hC := testBit_high j hj i hi
  have hp : (npart j (low j) (high j) n).testBit i = n.testBit (i ^^^ j) := by
    unfold npart
    rw [Nat.testBit_or, Nat.testBit_and, Nat.testBit_and, hB, hC, Nat.testBit_shiftRight, Nat.testBit_shiftLeft]
    by_cases h : i &&& j = 0
    · rw [xor_of_low j hj i hi h]; simp [h]
    · rw [(xor_of_high j hj i hi h).2]; simp [h, (xor_of_high j hj i hi h).1]
  unfold nstage lstage
  cases d <;> by_cases h : i &&& j = 0 <;> simp [hp, hB, hC, h]

/-- A list of stages on the bits of a number, the masks by table. -/
def nrun (d : Bool) (js : List ℕ) (n : ℕ) : ℕ := js.foldl (fun n j => nstage d j (low j) (high j) n) n

/-- A stage only reads the 64 lanes. -/
theorem lstage_congr (d : Bool) (j : ℕ) (hj : j ∈ [1, 2, 4, 8, 16, 32]) (a b : ℕ → Bool) (h : ∀ i < 64, a i = b i) :
    ∀ i < 64, lstage d j a i = lstage d j b i := by
  intro i hi
  unfold lstage
  rw [h i hi, h _ (xor_lt j hj i hi)]

/-- A run of stages only reads the 64 lanes. -/
theorem lrun_congr (d : Bool) (js : List ℕ) (hj : ∀ j ∈ js, j ∈ [1, 2, 4, 8, 16, 32]) (a b : ℕ → Bool) (h : ∀ i < 64, a i = b i) :
    ∀ i < 64, lrun d js a i = lrun d js b i := by
  induction js generalizing a b with
  | nil => exact h
  | cons j js ih =>
    exact ih (fun k hk => hj k (List.mem_cons_of_mem _ hk)) _ _ (lstage_congr d j (hj j List.mem_cons_self) a b h)

/-- The run on numbers does what the run on bits does. -/
theorem testBit_nrun (d : Bool) (js : List ℕ) (hj : ∀ j ∈ js, j ∈ [1, 2, 4, 8, 16, 32]) (n : ℕ) :
    ∀ i < 64, (nrun d js n).testBit i = lrun d js n.testBit i := by
  induction js generalizing n with
  | nil => exact fun _ _ => rfl
  | cons j js ih =>
    intro i hi
    refine (ih (fun k hk => hj k (List.mem_cons_of_mem _ hk)) (nstage d j (low j) (high j) n) i hi).trans ?_
    exact lrun_congr d js (fun k hk => hj k (List.mem_cons_of_mem _ hk)) _ _
      (fun i hi => testBit_nstage d j (hj j List.mem_cons_self) n i hi) i hi

/-! ## The merge of a descending and an ascending half -/

/-- A descending half with `u` trues, then an ascending half with `v` trues. -/
def halves (h u v : ℕ) (r : ℕ) : Bool := if r < h then decide (r < u) else decide (2 * h - v ≤ r)

/-- Its bits as a number, -/
def nhalves (h u v : ℕ) : ℕ := (2 ^ u - 1) ||| ((2 ^ v - 1) <<< (2 * h - v))

/-- A sorted block of `n` lanes with `c` trues. -/
def sortedBlock (d : Bool) (n c : ℕ) (r : ℕ) : Bool := if d then decide (r < c) else decide (n - c ≤ r)

/-- and its bits. -/
def nsorted (d : Bool) (n c : ℕ) : ℕ := bif d then 2 ^ c - 1 else (2 ^ c - 1) <<< (n - c)

/-- The stages of the phase that sorts blocks of `2 * h`. -/
def phase : ℕ → List ℕ
  | 1 => [1] | 2 => [2, 1] | 4 => [4, 2, 1] | 8 => [8, 4, 2, 1] | 16 => [16, 8, 4, 2, 1] | 32 => [32, 16, 8, 4, 2, 1] | _ => []

/-- The distances of a phase are powers of two up to 32. -/
theorem phase_mem : ∀ h ∈ [1, 2, 4, 8, 16, 32], ∀ j ∈ phase h, j ∈ [1, 2, 4, 8, 16, 32] := by decide

/-- The number of two sorted halves has the bits of two sorted halves. -/
theorem nhalves_testBit : ∀ h ∈ [1, 2, 4, 8, 16, 32], ∀ u < h + 1, ∀ v < h + 1, ∀ r < 2 * h, (nhalves h u v).testBit r = halves h u v r := by
  decide +kernel

/-- Merging two sorted halves of bits gives a sorted block, for every two counts. -/
theorem merge_bits : ∀ h ∈ [1, 2, 4, 8, 16, 32], ∀ u < h + 1, ∀ v < h + 1, ∀ d : Bool,
    nrun d (phase h) (nhalves h u v) = nsorted d (2 * h) (u + v) := by
  decide +kernel

/-- A phase stays within its block. -/
theorem phase_lt : ∀ h ∈ [1, 2, 4, 8, 16, 32], ∀ j ∈ phase h, ∀ i < 2 * h, i ^^^ j < 2 * h := by decide +kernel

/-- A run within a block only reads that block. -/
theorem lrun_congr_block (d : Bool) (n : ℕ) (js : List ℕ) (hj : ∀ j ∈ js, ∀ i < n, i ^^^ j < n) (a b : ℕ → Bool)
    (h : ∀ i < n, a i = b i) : ∀ i < n, lrun d js a i = lrun d js b i := by
  induction js generalizing a b with
  | nil => exact h
  | cons j js ih =>
    refine ih (fun k hk => hj k (List.mem_cons_of_mem _ hk)) _ _ fun i hi => ?_
    show lstage d j a i = lstage d j b i
    unfold lstage
    rw [h i hi, h _ (hj j List.mem_cons_self i hi)]

/-- The number of a sorted block has the bits of a sorted block. -/
theorem nsorted_testBit : ∀ h ∈ [1, 2, 4, 8, 16, 32], ∀ c < 2 * h + 1, ∀ d : Bool, ∀ r < 2 * h,
    (nsorted d (2 * h) c).testBit r = sortedBlock d (2 * h) c r := by
  decide +kernel

/-- A phase sorts a block made of a descending and an ascending half. -/
theorem merge (h : ℕ) (hh : h ∈ [1, 2, 4, 8, 16, 32]) (u v : ℕ) (hu : u ≤ h) (hv : v ≤ h) (d : Bool) (a : ℕ → Bool)
    (ha : ∀ r < 2 * h, a r = halves h u v r) : ∀ r < 2 * h, lrun d (phase h) a r = sortedBlock d (2 * h) (u + v) r := by
  intro r hr
  have h64 : 2 * h ≤ 64 := by
    have : ∀ h ∈ [1, 2, 4, 8, 16, 32], 2 * h ≤ 64 := by decide
    exact this h hh
  rw [lrun_congr_block d (2 * h) (phase h) (phase_lt h hh) a (nhalves h u v).testBit
    (fun i hi => (ha i hi).trans (nhalves_testBit h hh u (by omega) v (by omega) i hi).symm) r hr,
    ← testBit_nrun d (phase h) (phase_mem h hh) _ r (by omega), merge_bits h hh u (by omega) v (by omega) d,
    nsorted_testBit h hh (u + v) (by omega) d r hr]

/-! ## All blocks -/

/-- Where a block lies, and which way it is sorted. -/
theorem block_facts : ∀ h ∈ [1, 2, 4, 8, 16, 32], ∀ j ∈ phase h, ∀ q < 32 / h, ∀ r < 2 * h,
    ((2 * h * q + r) &&& j = r &&& j) ∧ ((2 * h * q + r) &&& (2 * h) = 0 ↔ q % 2 = 0) ∧ (2 * h * q + r) ^^^ j = 2 * h * q + (r ^^^ j) := by
  decide +kernel

/-- Inside a block the network's stages are the block's. -/
theorem brun_block (h : ℕ) (hh : h ∈ [1, 2, 4, 8, 16, 32]) (q : ℕ) (hq : q < 32 / h) (js : List ℕ) (hj : ∀ j ∈ js, j ∈ phase h) (a : ℕ → Bool) :
    ∀ r < 2 * h, brunStages (js.map fun j => (2 * h, j)) a (2 * h * q + r)
      = lrun (decide (q % 2 = 0)) js (fun r => a (2 * h * q + r)) r := by
  induction js generalizing a with
  | nil => exact fun _ _ => rfl
  | cons j js ih =>
    intro r hr
    refine (ih (fun k hk => hj k (List.mem_cons_of_mem _ hk)) (bstage (2 * h) j a) r hr).trans ?_
    refine lrun_congr_block _ (2 * h) js (fun k hk => phase_lt h hh k (hj k (List.mem_cons_of_mem _ hk))) _ _ (fun i hi => ?_) r hr
    obtain ⟨e1, e2, e3⟩ := block_facts h hh j (hj j List.mem_cons_self) q hq i hi
    simp only [bstage, lstage, e1, e2, e3, decide_eq_true_eq]

/-- Every block of `n` lanes is sorted, the even ones descending, and `c` counts their trues. -/
def BlockSorted (n : ℕ) (a : ℕ → Bool) (c : ℕ → ℕ) : Prop :=
  ∀ q < 64 / n, c q ≤ n ∧ ∀ r < n, a (n * q + r) = sortedBlock (decide (q % 2 = 0)) n (c q) r

/-- The counts of the blocks of twice the size. -/
def pairUp (c : ℕ → ℕ) (q : ℕ) : ℕ := c (2 * q) + c (2 * q + 1)

/-- A phase makes blocks of twice the size sorted. -/
theorem phase_step (h : ℕ) (hh : h ∈ [1, 2, 4, 8, 16, 32]) (a : ℕ → Bool) (c : ℕ → ℕ) (H : BlockSorted h a c) :
    BlockSorted (2 * h) (brunStages ((phase h).map fun j => (2 * h, j)) a) (pairUp c) := by
  intro q hq
  have e : ∀ h ∈ [1, 2, 4, 8, 16, 32], 64 / (2 * h) = 32 / h ∧ 64 / h = 2 * (32 / h) := by decide
  obtain ⟨e1, e2⟩ := e h hh
  rw [e1] at hq
  obtain ⟨hu, au⟩ := H (2 * q) (by omega)
  obtain ⟨hv, av⟩ := H (2 * q + 1) (by omega)
  refine ⟨by unfold pairUp; omega, fun r hr => ?_⟩
  rw [brun_block h hh q hq (phase h) (fun _ hk => hk) a r hr]
  refine merge h hh _ _ hu hv _ _ (fun r hr => ?_) r hr
  unfold halves
  split
  · rename_i h1
    have := au r h1
    rw [show h * (2 * q) = 2 * h * q by ring] at this
    rw [this, show (2 * q) % 2 = 0 by omega]; simp [sortedBlock]
  · rename_i h1
    have := av (r - h) (by omega)
    rw [show h * (2 * q + 1) + (r - h) = 2 * h * q + r by rw [show h * (2 * q + 1) = 2 * h * q + h by ring]; omega] at this
    rw [this, show (2 * q + 1) % 2 = 1 by omega]
    simp only [sortedBlock, show ¬((1 : ℕ) = 0) by decide, decide_false, Bool.false_eq_true, if_false]
    congr 1
    apply propext
    omega

/-- Adding pairs keeps the sum. -/
theorem sum_pairs (c : ℕ → ℕ) (n : ℕ) : (∑ q ∈ Finset.range n, pairUp c q) = ∑ q ∈ Finset.range (2 * n), c q := by
  induction n with
  | zero => rfl
  | succ n ih =>
    rw [Finset.sum_range_succ, ih, show 2 * (n + 1) = 2 * n + 1 + 1 by ring, Finset.sum_range_succ, Finset.sum_range_succ, pairUp, add_assoc]

/-- Six rounds of adding pairs leave the sum of all. -/
theorem pairUp_all (c : ℕ → ℕ) : pairUp (pairUp (pairUp (pairUp (pairUp (pairUp c))))) 0 = ∑ q ∈ Finset.range 64, c q := by
  have h := sum_pairs (pairUp (pairUp (pairUp (pairUp (pairUp c))))) 1
  rw [Finset.sum_range_one] at h
  rw [h, sum_pairs, sum_pairs, sum_pairs, sum_pairs, sum_pairs]

/-- The network sorts a row of truth values. -/
theorem brunStages_sorted (a : ℕ → Bool) : ∀ i < 64,
    brunStages stages a i = decide (i < ∑ q ∈ Finset.range 64, if a q then 1 else 0) := by
  have H0 : BlockSorted 1 a (fun q => if a q then 1 else 0) := by
    intro q _
    refine ⟨by dsimp only; split <;> omega, fun r hr => ?_⟩
    obtain rfl : r = 0 := by omega
    rw [show 1 * q + 0 = q by omega]
    by_cases hq : q % 2 = 0 <;> cases h : a q <;> simp [sortedBlock, hq, h]
  have H := phase_step 32 (by decide) _ _ (phase_step 16 (by decide) _ _ (phase_step 8 (by decide) _ _ (phase_step 4 (by decide) _ _
    (phase_step 2 (by decide) _ _ (phase_step 1 (by decide) _ _ H0)))))
  intro i hi
  have := (H 0 (by decide)).2 i hi
  rw [show 2 * 32 * 0 + i = i by omega] at this
  refine (show brunStages stages a i = _ from this).trans ?_
  rw [show decide ((0 : ℕ) % 2 = 0) = true from rfl]
  simp only [sortedBlock, if_true]
  rw [pairUp_all]

/-- The network sorts a row of values in descending order: the value in place `i` is at least `t` exactly when more than
`i` of the values are. -/
theorem runStages_sorted {α : Type*} [LinearOrder α] (a : ℕ → α) (t : α) (i : ℕ) (hi : i < 64) :
    t ≤ runStages stages a i ↔ i < ∑ q ∈ Finset.range 64, if t ≤ a q then 1 else 0 := by
  have h := congrFun (decide_runStages t stages a) i
  rw [brunStages_sorted _ i hi] at h
  simpa using h

end Cert.Router

end
-- ==== Proof.Router.Rank.lean ====
module

public import proofs.«01_k».proof.Proof.Router.Bitonic
public import Mathlib.Data.EReal.Operations
public import Mathlib.Data.EReal.Inv
public import Mathlib.Data.Fintype.EquivFin
public import Mathlib.Data.Finset.Max
public import Mathlib.Algebra.Order.BigOperators.Group.Finset
public import Mathlib.Tactic.Linarith

/-! # Ranks in a row of 64 values

The place of each expert in the descending order of a row, ties broken by number, and the row in that order. -/

@[expose] public section

noncomputable section

namespace Cert.Router

open Classical in
/-- How many values of a row are at least `t`. -/
def atLeast (p : Fin 64 → EReal) (t : EReal) : ℕ := (Finset.univ.filter fun e => t ≤ p e).card

/-- Expert `e'` comes before expert `e` in the descending order. -/
def Before (p : Fin 64 → EReal) (e' e : Fin 64) : Prop := p e < p e' ∨ (p e' = p e ∧ e' < e)

open Classical in
/-- The place of expert `e` in the descending order. -/
def rank (p : Fin 64 → EReal) (e : Fin 64) : ℕ := (Finset.univ.filter fun e' => Before p e' e).card

/-- No expert comes before itself. -/
theorem before_irrefl (p : Fin 64 → EReal) (e : Fin 64) : ¬Before p e e := by
  rintro (h | ⟨_, h⟩) <;> exact lt_irrefl _ h

/-- The order of the experts is transitive. -/
theorem before_trans (p : Fin 64 → EReal) {a b c : Fin 64} (h₁ : Before p a b) (h₂ : Before p b c) : Before p a c := by
  rcases h₁ with h₁ | ⟨e₁, h₁⟩ <;> rcases h₂ with h₂ | ⟨e₂, h₂⟩
  · exact .inl (h₂.trans h₁)
  · exact .inl (e₂ ▸ h₁)
  · exact .inl (e₁ ▸ h₂)
  · exact .inr ⟨e₁.trans e₂, h₁.trans h₂⟩

/-- Of two experts one comes first. -/
theorem before_total (p : Fin 64 → EReal) {a b : Fin 64} (h : a ≠ b) : Before p a b ∨ Before p b a := by
  rcases lt_trichotomy (p a) (p b) with h' | h' | h'
  · exact .inr (.inl h')
  · rcases lt_or_gt_of_ne h with g | g
    · exact .inl (.inr ⟨h', g⟩)
    · exact .inr (.inr ⟨h'.symm, g⟩)
  · exact .inl (.inl h')

/-- Who comes before has the smaller rank. -/
theorem rank_lt_of_before (p : Fin 64 → EReal) {a b : Fin 64} (h : Before p a b) : rank p a < rank p b := by
  classical
  refine Finset.card_lt_card (Finset.ssubset_iff_of_subset ?_ |>.mpr ⟨a, ?_, ?_⟩)
  · intro c hc
    simp only [Finset.mem_filter, Finset.mem_univ, true_and] at hc ⊢
    exact before_trans p hc h
  · simpa using h
  · simpa using before_irrefl p a

/-- A rank is below 64. -/
theorem rank_lt (p : Fin 64 → EReal) (e : Fin 64) : rank p e < 64 := by
  classical
  refine lt_of_lt_of_eq (Finset.card_lt_card (s := Finset.univ.filter fun e' => Before p e' e)
    (Finset.filter_ssubset.mpr ⟨e, Finset.mem_univ e, before_irrefl p e⟩)) ?_
  simp

/-- Two experts have different ranks. -/
theorem rank_inj (p : Fin 64 → EReal) : Function.Injective fun e => (⟨rank p e, rank_lt p e⟩ : Fin 64) := by
  intro a b h
  by_contra hne
  have h' : rank p a = rank p b := congrArg Fin.val h
  rcases before_total p hne with g | g
  · exact absurd (rank_lt_of_before p g) (by omega)
  · exact absurd (rank_lt_of_before p g) (by omega)

/-- Places and experts correspond. -/
def rankEquiv (p : Fin 64 → EReal) : Fin 64 ≃ Fin 64 := Equiv.ofBijective _ (Finite.injective_iff_bijective.mp (rank_inj p))

/-- The expert in place `s`. -/
def atPlace (p : Fin 64 → EReal) (s : Fin 64) : Fin 64 := (rankEquiv p).symm s

/-- The expert at a place has that rank. -/
theorem rank_atPlace (p : Fin 64 → EReal) (s : Fin 64) : rank p (atPlace p s) = s.val :=
  congrArg Fin.val ((rankEquiv p).apply_symm_apply s)

/-- An expert stands at the place of its rank. -/
theorem atPlace_rank (p : Fin 64 → EReal) (e : Fin 64) : atPlace p ⟨rank p e, rank_lt p e⟩ = e :=
  (rankEquiv p).symm_apply_apply e

/-- An expert stands at a place exactly when that is its rank. -/
theorem atPlace_eq_iff (p : Fin 64 → EReal) (s e : Fin 64) : atPlace p s = e ↔ rank p e = s.val := by
  constructor
  · rintro rfl; exact rank_atPlace p s
  · intro h; rw [← atPlace_rank p e]; congr 1; exact Fin.ext h.symm

/-- The row in descending order. -/
def desc (p : Fin 64 → EReal) (s : Fin 64) : EReal := p (atPlace p s)

/-- A probability is at least `t` exactly when its rank is below the number of such probabilities. -/
theorem le_iff_rank (p : Fin 64 → EReal) (t : EReal) (e : Fin 64) : t ≤ p e ↔ rank p e < atLeast p t := by
  classical
  constructor
  · intro h
    refine Finset.card_lt_card (Finset.ssubset_iff_of_subset ?_ |>.mpr ⟨e, by simpa using h, by simpa using before_irrefl p e⟩)
    intro c hc
    simp only [Finset.mem_filter, Finset.mem_univ, true_and] at hc ⊢
    rcases hc with hc | ⟨hc, _⟩
    · exact h.trans hc.le
    · exact hc ▸ h
  · intro h
    by_contra ht
    refine absurd h (not_lt.mpr (Finset.card_le_card ?_))
    intro c hc
    simp only [Finset.mem_filter, Finset.mem_univ, true_and] at hc ⊢
    exact .inl ((not_le.mp ht).trans_le hc)

/-- The value in place `s` is at least `t` exactly when more than `s` of the values are. -/
theorem le_desc_iff (p : Fin 64 → EReal) (t : EReal) (s : Fin 64) : t ≤ desc p s ↔ s.val < atLeast p t := by
  rw [desc, le_iff_rank, rank_atPlace]

/-- The sorted probabilities descend. -/
theorem desc_antitone (p : Fin 64 → EReal) {s s' : Fin 64} (h : s ≤ s') : desc p s' ≤ desc p s :=
  (le_desc_iff p _ s).mpr (lt_of_le_of_lt h ((le_desc_iff p _ s').mp le_rfl))

/-- A row with that property is the row in descending order. -/
theorem eq_desc (p : Fin 64 → EReal) (s : Fin 64) (v : EReal) (h : ∀ t, t ≤ v ↔ s.val < atLeast p t) : v = desc p s :=
  eq_of_forall_le_iff fun t => (h t).trans (le_desc_iff p t s).symm

/-- The network's result is the row in descending order. -/
theorem runStages_eq_desc (p : Fin 64 → EReal) (a : ℕ → EReal) (ha : ∀ e : Fin 64, a e.val = p e) (s : Fin 64) :
    runStages stages a s.val = desc p s := by
  classical
  refine eq_desc p s _ fun t => ?_
  rw [runStages_sorted a t s.val s.isLt]
  have e : atLeast p t = ∑ q ∈ Finset.range 64, if t ≤ a q then 1 else 0 := by
    rw [atLeast, Finset.card_filter, ← Fin.sum_univ_eq_sum_range (fun q => if t ≤ a q then 1 else 0) 64]
    exact Finset.sum_congr rfl fun e _ => by rw [ha]
  rw [e]

/-! ## The first `k` places by a threshold -/

open Classical in
/-- Among the first `k` places are the values above the one in place `k - 1`, and of those equal to it the first in
number. -/
theorem rank_lt_iff (p : Fin 64 → EReal) (k : ℕ) (hk : 1 ≤ k) (hk' : k ≤ 64) (e : Fin 64) :
    rank p e < k ↔ desc p ⟨k - 1, by omega⟩ < p e ∨ (p e = desc p ⟨k - 1, by omega⟩
      ∧ (Finset.univ.filter fun e' => p e' = desc p ⟨k - 1, by omega⟩ ∧ e' < e).card
          + (Finset.univ.filter fun e' => desc p ⟨k - 1, by omega⟩ < p e').card < k) := by
  set d : EReal := desc p ⟨k - 1, by omega⟩ with hd
  have hQ : k ≤ atLeast p d := by
    have := (le_desc_iff p d ⟨k - 1, by omega⟩).mp le_rfl
    dsimp only at this; omega
  have hG : (Finset.univ.filter fun e' => d < p e').card < k := by
    by_contra hcon
    rcases Finset.eq_empty_or_nonempty (Finset.univ.filter fun e' => d < p e') with h0 | h0
    · rw [h0] at hcon; simp at hcon; omega
    · obtain ⟨m, hm, hmin⟩ := Finset.exists_min_image _ p h0
      simp only [Finset.mem_filter, Finset.mem_univ, true_and] at hm hmin
      have : atLeast p (p m) = (Finset.univ.filter fun e' => d < p e').card := by
        unfold atLeast
        congr 1
        ext e'
        simp only [Finset.mem_filter, Finset.mem_univ, true_and]
        exact ⟨fun h => hm.trans_le h, fun h => hmin e' h⟩
      have h2 := (le_desc_iff p (p m) ⟨k - 1, by omega⟩).mpr (by dsimp only; omega)
      exact absurd (lt_of_lt_of_le hm h2) (lt_irrefl _)
  rcases lt_trichotomy d (p e) with h | h | h
  · refine iff_of_true (lt_of_lt_of_le ?_ hG.le) (.inl h)
    refine Finset.card_lt_card (Finset.ssubset_iff_of_subset ?_ |>.mpr ⟨e, by simpa using h, by simpa using before_irrefl p e⟩)
    intro c hc
    simp only [Finset.mem_filter, Finset.mem_univ, true_and] at hc ⊢
    rcases hc with hc | ⟨hc, _⟩
    · exact h.trans hc
    · exact hc ▸ h
  · have hr : rank p e = (Finset.univ.filter fun e' => p e' = d ∧ e' < e).card + (Finset.univ.filter fun e' => d < p e').card := by
      rw [rank, ← Finset.card_union_of_disjoint]
      · congr 1
        ext c
        simp only [Finset.mem_filter, Finset.mem_univ, true_and, Finset.mem_union, Before, ← h]
        exact or_comm
      · rw [Finset.disjoint_left]
        intro c hc hc'
        simp only [Finset.mem_filter, Finset.mem_univ, true_and] at hc hc'
        exact absurd hc' (by rw [hc.1]; exact lt_irrefl _)
    rw [hr]
    exact ⟨fun g => .inr ⟨h.symm, g⟩, fun g => g.elim (fun g => absurd (h ▸ g) (lt_irrefl _)) (·.2)⟩
  · refine iff_of_false (fun hr => ?_) (fun g => g.elim (fun g => lt_asymm h g) (fun g => absurd (g.1 ▸ h) (lt_irrefl _)))
    have := (le_iff_rank p d e).mpr (hr.trans_le hQ)
    exact absurd (h.trans_le this) (lt_irrefl _)

end Cert.Router

end
-- ==== Proof.Router.Sorted.lean ====
module

public import proofs.«01_k».proof.Proof.Router.Block
public import proofs.«01_k».proof.Proof.Router.Rank
public import Idealize.ShloMosaic.Lib.Pointwise
public import Idealize.ShloMosaic.Lib.KernelVsHost
public import Mathlib.Tactic.IntervalCases

/-! # The printed sorting network

The body's chain of rotations, selections, minima and maxima is the list of stages of the bitonic network; so each
row of its result is the row of probabilities in descending order. -/

@[expose] public section

set_option maxRecDepth 16384

noncomputable section

namespace Cert.KernelIdeal.Hand
open Cert.KernelIdeal.Gen Cert.Router
open Idealize.ShloMosaic Idealize.ShloMosaic.TcCoe

section Printed
variable {F : FTy → Type} [FloatOps F]

/-- The lanes whose number has bit `j` clear. -/
def bitV (j : BitVec 32) : IVec S1x64 1 := cmpi .eq (andi lanes (broadcast S1x64 j)) (broadcast S1x64 0#32)

/-- Each lane's partner at distance `j`: the lane above where bit `j` is clear, the lane below where it is set. -/
def partV (j r : BitVec 32) (a : FVec F S512x64 .f32) : FVec F S512x64 .f32 :=
  select (broadcastTo S512x64 (shapeCast S1x64 (bitV j) shapeCasts_S1x64_S1x64) broadcasts_S1x64_S512x64)
    (dynamicRotate 1 r none a rotates_S512x64_d1) (dynamicRotate 1 j none a rotates_S512x64_d1)

/-- One stage of the network as the body prints it. -/
def stageV (k j r : BitVec 32) (a : FVec F S512x64 .f32) : FVec F S512x64 .f32 :=
  select (broadcastTo S512x64 (shapeCast S1x64 (xori (xori (bitV j) (bitV k)) (constantI S1x64 1 1#1)) shapeCasts_S1x64_S1x64)
    broadcasts_S1x64_S512x64) (maximumf a (partV j r a)) (minimumf a (partV j r a))

variable (x : Vec F S1x512x1024 .f32) (w : Vec F S1024x64 .f32)

/-- The printed intermediate is these stages of the network. -/
theorem netA_eq : netA x w = stageV 4#32 2#32 62#32 (stageV 2#32 1#32 63#32 (prob x w)) := rfl
/-- The printed intermediate is these stages of the network. -/
theorem netA1_eq : netA1 x w = partV 1#32 63#32 (netA x w) := rfl
/-- The printed intermediate is these stages of the network. -/
theorem netA2_eq : netA2 x w = minimumf (netA x w) (partV 1#32 63#32 (netA x w)) := rfl

/-- The printed piece of the body is these stages of the network. -/
theorem pay15_eq (v : FVec F S512x64 .f32) :
    k0_pay15 lanes v (k0_pay11 lanes) (k0_pay12 lanes) (partV 1#32 63#32 v) (minimumf v (partV 1#32 63#32 v))
      = stageV 8#32 4#32 60#32 (stageV 4#32 1#32 63#32 v) := rfl

/-- The printed intermediate is these stages of the network. -/
theorem netB1_eq : netB1 x w = minimumf (stageV 8#32 4#32 60#32 (stageV 4#32 1#32 63#32 (netA x w)))
    (partV 2#32 62#32 (stageV 8#32 4#32 60#32 (stageV 4#32 1#32 63#32 (netA x w)))) := by
  unfold netB1 k0_pay18 k0_pay17; rw [netA1_eq, netA2_eq, pay15_eq]; rfl
/-- The printed intermediate is these stages of the network. -/
theorem netB2_eq : netB2 x w = maximumf (stageV 8#32 4#32 60#32 (stageV 4#32 1#32 63#32 (netA x w)))
    (partV 2#32 62#32 (stageV 8#32 4#32 60#32 (stageV 4#32 1#32 63#32 (netA x w)))) := by
  unfold netB2 k0_pay19 k0_pay17; rw [netA1_eq, netA2_eq, pay15_eq]; rfl

/-- The printed piece of the body is these stages of the network. -/
theorem pay21_eq (v : FVec F S512x64 .f32) :
    k0_pay21 lanes (minimumf v (partV 2#32 62#32 v)) (maximumf v (partV 2#32 62#32 v)) (k0_pay20 lanes)
      = stageV 16#32 8#32 56#32 (stageV 8#32 1#32 63#32 (stageV 8#32 2#32 62#32 v)) := rfl

/-- The printed intermediate is these stages of the network. -/
theorem netC_eq : netC x w = stageV 16#32 8#32 56#32 (stageV 8#32 1#32 63#32 (stageV 8#32 2#32 62#32
    (stageV 8#32 4#32 60#32 (stageV 4#32 1#32 63#32 (netA x w))))) := by
  unfold netC; rw [netB1_eq, netB2_eq, pay21_eq]

/-- The printed piece of the body is these stages of the network. -/
theorem pay24_eq (v : FVec F S512x64 .f32) :
    k0_pay24 lanes v (k0_pay22 lanes) k0_pay23 = stageV 16#32 2#32 62#32 (stageV 16#32 4#32 60#32 v) := rfl
/-- The printed piece of the body is these stages of the network. -/
theorem pay28_eq (v : FVec F S512x64 .f32) :
    k0_pay28 lanes v (k0_pay25 lanes) (k0_pay26 lanes) k0_pay27 = stageV 32#32 16#32 48#32 (stageV 16#32 1#32 63#32 v) := rfl

/-- The printed intermediate is these stages of the network. -/
theorem netE_eq : netE x w = stageV 32#32 16#32 48#32 (stageV 16#32 1#32 63#32 (stageV 16#32 2#32 62#32
    (stageV 16#32 4#32 60#32 (netC x w)))) := by
  unfold netE netD; rw [pay24_eq, pay28_eq]

/-- The printed piece of the body is these stages of the network. -/
theorem pay34_eq (v : FVec F S512x64 .f32) :
    k0_pay34 lanes v (k0_pay29 lanes) (k0_pay30 lanes) (dynamicRotate 1 56#32 none v rotates_S512x64_d1)
      (dynamicRotate 1 8#32 none v rotates_S512x64_d1) (k0_pay33 lanes)
      = stageV 32#32 4#32 60#32 (stageV 32#32 8#32 56#32 v) := rfl
/-- The printed intermediate is these stages of the network. -/
theorem netE1_eq : netE1 x w = dynamicRotate 1 56#32 none (netE x w) rotates_S512x64_d1 := rfl
/-- The printed intermediate is these stages of the network. -/
theorem netE2_eq : netE2 x w = dynamicRotate 1 8#32 none (netE x w) rotates_S512x64_d1 := rfl

/-- The printed intermediate is these stages of the network. -/
theorem netF1_eq : netF1 x w = minimumf (stageV 32#32 4#32 60#32 (stageV 32#32 8#32 56#32 (netE x w)))
    (partV 2#32 62#32 (stageV 32#32 4#32 60#32 (stageV 32#32 8#32 56#32 (netE x w)))) := by
  unfold netF1 k0_pay37 k0_pay36; rw [netE1_eq, netE2_eq, pay34_eq]; rfl
/-- The printed intermediate is these stages of the network. -/
theorem netF2_eq : netF2 x w = maximumf (stageV 32#32 4#32 60#32 (stageV 32#32 8#32 56#32 (netE x w)))
    (partV 2#32 62#32 (stageV 32#32 4#32 60#32 (stageV 32#32 8#32 56#32 (netE x w)))) := by
  unfold netF2 k0_pay38 k0_pay36; rw [netE1_eq, netE2_eq, pay34_eq]; rfl

/-- The printed piece of the body is these stages of the network. -/
theorem pay40_eq (v : FVec F S512x64 .f32) :
    k0_pay40 lanes (minimumf v (partV 2#32 62#32 v)) (maximumf v (partV 2#32 62#32 v)) (k0_pay39 lanes) (constantI S1x64 1 1#1)
      = stageV 64#32 32#32 32#32 (stageV 32#32 1#32 63#32 (stageV 32#32 2#32 62#32 v)) := rfl

/-- The printed piece of the body is these stages of the network. -/
theorem pay42_eq (v : FVec F S512x64 .f32) :
    k0_pay42 lanes v k0_pay41 = stageV 64#32 8#32 56#32 (stageV 64#32 16#32 48#32 v) := rfl
/-- The printed piece of the body is these stages of the network. -/
theorem pay45_eq (v : FVec F S512x64 .f32) :
    k0_pay45 lanes v (k0_pay43 lanes) k0_pay44 = stageV 64#32 2#32 62#32 (stageV 64#32 4#32 60#32 v) := rfl
/-- The printed intermediate is these stages of the network. -/
theorem netI1_eq : netI1 x w = dynamicRotate 1 63#32 none (netI x w) rotates_S512x64_d1 := rfl
/-- The printed piece of the body is these stages of the network. -/
theorem pay49_eq (v : FVec F S512x64 .f32) :
    k0_pay49 v (k0_pay46 lanes) (k0_pay47 lanes) (dynamicRotate 1 63#32 none v rotates_S512x64_d1)
      = stageV 64#32 1#32 63#32 v := rfl

/-- The body's network: the twenty-one stages, one after the other. -/
theorem sorted_eq : sorted x w =
    stages.foldl (fun a s => stageV (BitVec.ofNat 32 s.1) (BitVec.ofNat 32 s.2) (BitVec.ofNat 32 (64 - s.2)) a) (prob x w) := by
  unfold sorted; rw [netI1_eq, pay49_eq]
  unfold netI netH netG; rw [netF1_eq, netF2_eq, pay40_eq, pay42_eq, pay45_eq, netE_eq, netC_eq, netA_eq]
  generalize prob x w = p
  rfl

end Printed

/-- A lane's bit as the word test computes it. -/
theorem bit_word : ∀ (j : Fin 65) (l : Fin 64), IntOp.cmpi .eq (IntOp.andi (BitVec.ofNat 32 l.val) (BitVec.ofNat 32 j.val)) 0#32
    = BitVec.ofBool (decide (l.val &&& j.val = 0)) := by
  decide +kernel

/-- The test of a lane's bit. -/
theorem bitV_apply (j : ℕ) (hj : j < 65) (l : Fin 64) :
    bitV (BitVec.ofNat 32 j) (ix2 0 l) = BitVec.ofBool (decide (l.val &&& j = 0)) := by
  unfold bitV lanes; pointwise; exact bit_word ⟨j, hj⟩ l

/-- One printed stage computes the network's stage on every row. -/
theorem stageV_apply (k j : ℕ) (hk : k < 65) (hj : j ∈ [1, 2, 4, 8, 16, 32]) (a : FVec Ideal S512x64 .f32) (r : Fin 512)
    (b : ℕ → EReal) (hb : ∀ l : Fin 64, a (ix2 r l) = b l.val) (l : Fin 64) :
    stageV (BitVec.ofNat 32 k) (BitVec.ofNat 32 j) (BitVec.ofNat 32 (64 - j)) a (ix2 r l) = stage k j b l.val := by
  have hj64 : j < 65 ∧ 1 ≤ j ∧ j ≤ 32 := by simp at hj; omega
  have hl := l.isLt
  have up : dynamicRotate 1 (BitVec.ofNat 32 (64 - j)) none a rotates_S512x64_d1 (ix2 r l) = b ((l.val + j) % 64) := by
    rw [dynamicRotate_apply 1 _ a _ (ix2 r l) (ix2 r ⟨(l.val + j) % 64, by omega⟩)]
    · exact hb _
    · intro c
      match c with
      | ⟨0, _⟩ => rfl
      | ⟨1, _⟩ =>
        show (l.val + j) % 64 = (l.val + 64 - (BitVec.ofNat 32 (64 - j)).toNat % 64) % 64
        rw [BitVec.toNat_ofNat]; omega
  have dn : dynamicRotate 1 (BitVec.ofNat 32 j) none a rotates_S512x64_d1 (ix2 r l) = b ((l.val + 64 - j) % 64) := by
    rw [dynamicRotate_apply 1 _ a _ (ix2 r l) (ix2 r ⟨(l.val + 64 - j) % 64, by omega⟩)]
    · exact hb _
    · intro c
      match c with
      | ⟨0, _⟩ => rfl
      | ⟨1, _⟩ =>
        show (l.val + 64 - j) % 64 = (l.val + 64 - (BitVec.ofNat 32 j).toNat % 64) % 64
        rw [BitVec.toNat_ofNat]; omega
  have part : partV (BitVec.ofNat 32 j) (BitVec.ofNat 32 (64 - j)) a (ix2 r l) = b (l.val ^^^ j) := by
    have e : partV (BitVec.ofNat 32 j) (BitVec.ofNat 32 (64 - j)) a (ix2 r l)
        = Scalar.select (bitV (BitVec.ofNat 32 j) (ix2 0 l)) (b ((l.val + j) % 64)) (b ((l.val + 64 - j) % 64)) := by
      rw [← up, ← dn]; unfold partV; pointwise
    rw [e, bitV_apply j hj64.1]
    by_cases h : l.val &&& j = 0
    · rw [xor_of_low j hj l.val hl h]
      have := xor_lt j hj l.val hl
      rw [xor_of_low j hj l.val hl h] at this
      simp only [h, decide_true]
      show b _ = _
      congr 1; omega
    · obtain ⟨h1, h2⟩ := xor_of_high j hj l.val hl h
      rw [h2]; simp only [h, decide_false]
      show b _ = _
      congr 1; omega
  have e : stageV (BitVec.ofNat 32 k) (BitVec.ofNat 32 j) (BitVec.ofNat 32 (64 - j)) a (ix2 r l)
      = Scalar.select (IntOp.xori (IntOp.xori (bitV (BitVec.ofNat 32 j) (ix2 0 l)) (bitV (BitVec.ofNat 32 k) (ix2 0 l))) 1#1)
          (max (b l.val) (b (l.val ^^^ j))) (min (b l.val) (b (l.val ^^^ j))) := by
    rw [← part, ← hb]; unfold stageV; pointwise
  rw [e, bitV_apply j hj64.1, bitV_apply k hk]
  unfold stage
  by_cases h1 : l.val &&& j = 0 <;> by_cases h2 : l.val &&& k = 0 <;> simp only [h1, h2, decide_true, decide_false, iff_self, if_true, iff_false, iff_true, not_true, if_false, not_false_eq_true] <;> rfl

/-- Each row of the network's result is the row of probabilities in descending order. -/
theorem sorted_apply (x : Vec Ideal S1x512x1024 .f32) (w : Vec Ideal S1024x64 .f32) (r : Fin 512) (s : Fin 64) :
    sorted (F := Ideal) x w (ix2 r s) = desc (fun e => prob (F := Ideal) x w (ix2 r e)) s := by
  have key : ∀ (L : List (ℕ × ℕ)), (∀ q ∈ L, q.1 < 65 ∧ q.2 ∈ [1, 2, 4, 8, 16, 32]) →
      ∀ (a : FVec Ideal S512x64 .f32) (b : ℕ → EReal), (∀ l : Fin 64, a (ix2 r l) = b l.val) → ∀ l : Fin 64,
      L.foldl (fun a s => stageV (BitVec.ofNat 32 s.1) (BitVec.ofNat 32 s.2) (BitVec.ofNat 32 (64 - s.2)) a) a (ix2 r l)
        = runStages L b l.val := by
    intro L
    induction L with
    | nil => intro _ a b h l; exact h l
    | cons q L ih =>
      intro hL a b h l
      exact ih (fun q' hq' => hL q' (List.mem_cons_of_mem _ hq')) _ (stage q.1 q.2 b)
        (stageV_apply q.1 q.2 (hL q (List.mem_cons_self)).1 (hL q (List.mem_cons_self)).2 a r b h) l
  rw [sorted_eq, key stages (by decide) _ (fun n => if h : n < 64 then prob (F := Ideal) x w (ix2 r ⟨n, h⟩) else 0)
    (fun l => by simp [l.isLt])]
  exact runStages_eq_desc _ _ (fun e => by simp [e.isLt]) s

end Cert.KernelIdeal.Hand

end
-- ==== Proof.Router.Row.lean ====
module

public import proofs.«01_k».proof.Proof.Router.Rank
public import Idealize.ShloMosaic.Lib.IdealHost
public import Mathlib.Tactic.NormNum
public import Mathlib.Tactic.Positivity

/-! # What the router decides for one token

From a row of 64 gate values: the softmax, how many experts are taken, which ones, and with what weights; and, from the
rows of a batch, each token's place in the queue of each expert. -/

@[expose] public section

noncomputable section

namespace Cert.Router
open Idealize.ShloMosaic

/-- The constant of minus infinity. -/
theorem bits_neg_inf : Ideal.ofBits .f32 0xFF800000#32 = ⊥ := by simp [Ideal.ofBits, Ideal.ieee]
/-- The constant of plus infinity. -/
theorem bits_pos_inf : Ideal.ofBits .f32 0x7F800000#32 = ⊤ := by simp [Ideal.ofBits, Ideal.ieee]
/-- The constant 0. -/
theorem bits_zero : Ideal.ofBits .f32 0x00000000#32 = 0 := by simp [Ideal.ofBits, Ideal.ieee]
/-- The constant 1. -/
theorem bits_one : Ideal.ofBits .f32 0x3F800000#32 = 1 := by
  simp [Ideal.ofBits, Ideal.ieee, -EReal.coe_mul]; norm_num
/-- The constant 40. -/
theorem bits_forty : Ideal.ofBits .f32 0x42200000#32 = ((40 : ℝ) : EReal) := by
  simp [Ideal.ofBits, Ideal.ieee, -EReal.coe_mul]; norm_num
/-- The constant 39. -/
theorem bits_39 : Ideal.ofBits .f32 0x421C0000#32 = ((39 : ℝ) : EReal) := by
  simp [Ideal.ofBits, Ideal.ieee, -EReal.coe_mul]; norm_num
/-- The constant 2048. -/
theorem bits_2048 : Ideal.ofBits .f32 0x45000000#32 = ((2048 : ℝ) : EReal) := by
  simp [Ideal.ofBits, Ideal.ieee, -EReal.coe_mul]; norm_num
/-- The constant 128. -/
theorem bits_128 : Ideal.ofBits .f32 0x43000000#32 = ((128 : ℝ) : EReal) := by
  simp [Ideal.ofBits, Ideal.ieee, -EReal.coe_mul]; norm_num
/-- The constant 4096. -/
theorem bits_4096 : Ideal.ofBits .f32 0x45800000#32 = ((4096 : ℝ) : EReal) := by
  simp [Ideal.ofBits, Ideal.ieee, -EReal.coe_mul]; norm_num
/-- The constant 1 / 131072. -/
theorem bits_scale : Ideal.ofBits .f32 0x37000000#32 = ((1 / 131072 : ℝ) : EReal) := by
  simp [Ideal.ofBits, Ideal.ieee, -EReal.coe_mul]; norm_num

/-- The threshold on the running sum of probabilities. -/
def theta : EReal := Ideal.ofBits .f32 0x3F4CCCCD#32

/-- The least divisor of the weights. -/
def tiny : EReal := Ideal.ofBits .f32 0x3089705F#32

/-- The threshold is positive. -/
theorem theta_pos : 0 < theta := by
  unfold theta; simp [Ideal.ofBits, Ideal.ieee, -EReal.coe_mul]
  try (first | positivity | norm_num)

/-- The least divisor is positive. -/
theorem tiny_pos : 0 < tiny := by
  unfold tiny; simp [Ideal.ofBits, Ideal.ieee, -EReal.coe_mul]
  try (first | positivity | norm_num)

/-- A sum of reals, taken among the extended reals. -/
theorem coe_sum {ι : Type} (s : Finset ι) (v : ι → ℝ) : ((∑ i ∈ s, v i : ℝ) : EReal) = ∑ i ∈ s, (v i : EReal) := by
  classical
  induction s using Finset.induction_on with
  | empty => simp
  | insert a s ha ih => rw [Finset.sum_insert ha, Finset.sum_insert ha, EReal.coe_add, ih]

/-- Nothing divided by something. -/
theorem nil_div {y : EReal} (hy : 0 < y) : Ideal.div 0 y = 0 := by
  unfold Ideal.div; rw [if_neg hy.ne', zero_mul]

/-- The largest entry of a row. -/
def top (g : Fin 64 → EReal) : EReal := Finset.univ.fold max ⊥ g

/-- The softmax of a row of gate values. -/
def soft (g : Fin 64 → EReal) (e : Fin 64) : EReal :=
  Ideal.div (Ideal.exp (g e - top g)) (∑ e', Ideal.exp (g e' - top g))

/-- A row of probabilities: nonnegative reals throughout, or (an infinity among the gate values) nothing but `⊥`. -/
def Good (p : Fin 64 → EReal) : Prop := (∀ e, ∃ v : ℝ, 0 ≤ v ∧ p e = (v : EReal)) ∨ ∀ e, p e = ⊥

/-- No element exceeds the greatest. -/
theorem le_top (g : Fin 64 → EReal) (e : Fin 64) : g e ≤ top g := by
  unfold top; rw [Finset.le_fold_max]; exact .inr ⟨e, Finset.mem_univ e, le_rfl⟩

/-- The greatest element is attained. -/
theorem top_attained (g : Fin 64 → EReal) : ∃ e, g e = top g := by
  obtain ⟨e, -, he⟩ := Finset.exists_max_image Finset.univ g ⟨0, Finset.mem_univ 0⟩
  refine ⟨e, le_antisymm (le_top g e) ?_⟩
  unfold top; rw [Finset.fold_max_le]; exact ⟨bot_le, he⟩

/-- A softmax row is good. -/
theorem soft_good (g : Fin 64 → EReal) : Good (soft g) := by
  have flat : (∀ e, g e - top g = ⊥) → ∀ e, soft g e = ⊥ := by
    intro h e
    unfold soft
    simp only [h, Ideal.exp_bot, Finset.sum_const_zero]
    simp [Ideal.div]
  induction hM : top g using EReal.rec with
  | bot =>
    refine .inr (flat fun e => ?_)
    have := le_top g e; rw [hM, le_bot_iff] at this; rw [hM, this]; rfl
  | top => exact .inr (flat fun e => by rw [hM, EReal.sub_top])
  | coe M =>
    left
    have hx : ∀ e, ∃ v : ℝ, 0 ≤ v ∧ Ideal.exp (g e - top g) = (v : EReal) := by
      intro e
      have h := le_top g e
      rw [hM] at h ⊢
      induction hg : g e using EReal.rec with
      | bot => exact ⟨0, le_rfl, by rw [EReal.bot_sub, Ideal.exp_bot]; rfl⟩
      | top => rw [hg] at h; exact absurd (top_le_iff.mp h) (EReal.coe_ne_top M)
      | coe r => exact ⟨Real.exp (r - M), (Real.exp_pos _).le, by rw [← EReal.coe_sub]; rfl⟩
    choose v hv hve using hx
    obtain ⟨e₀, he₀⟩ := top_attained g
    have h1 : v e₀ = 1 := by
      have := hve e₀
      rw [he₀, hM, ← EReal.coe_sub, sub_self] at this
      have h' : (Real.exp 0 : EReal) = (v e₀ : EReal) := this
      rw [Real.exp_zero] at h'
      exact_mod_cast h'.symm
    have hS : 0 < ∑ e, v e := lt_of_lt_of_le (by rw [h1]; exact one_pos)
      (Finset.single_le_sum (fun e _ => hv e) (Finset.mem_univ e₀))
    intro e
    refine ⟨v e * (∑ e, v e)⁻¹, by have := hv e; positivity, ?_⟩
    unfold soft
    simp only [hve]
    rw [← coe_sum]
    unfold Ideal.div
    rw [if_neg (by exact_mod_cast hS.ne'), ← EReal.coe_inv, ← EReal.coe_mul]

/-- The running sum of the row in descending order. -/
def csum (p : Fin 64 → EReal) (i : Fin 64) : EReal := ∑ j, if j ≤ i then desc p j else 0

open Classical in
/-- How many experts the token takes. -/
def kst (p : Fin 64 → EReal) : ℕ := max (Finset.univ.filter fun i => csum p i < theta).card 1

/-- At least one expert is kept. -/
theorem one_le_kst (p : Fin 64 → EReal) : 1 ≤ kst p := le_max_right _ _

/-- At most 64 experts are kept. -/
theorem kst_le (p : Fin 64 → EReal) : kst p ≤ 64 := by
  classical
  exact max_le (le_trans (Finset.card_le_univ _) (by simp)) (by norm_num)

/-- The running sums of a row of `⊥`. -/
theorem csum_bot {p : Fin 64 → EReal} (h : ∀ e, p e = ⊥) (i : Fin 64) : csum p i = ⊥ := by
  unfold csum
  rw [← Finset.add_sum_erase _ _ (Finset.mem_univ (0 : Fin 64)), if_pos (Fin.zero_le i)]
  rw [show desc p 0 = ⊥ from h _, EReal.bot_add]

/-- The first running sum is the greatest probability. -/
theorem csum_zero (p : Fin 64 → EReal) : csum p 0 = desc p 0 := by
  unfold csum
  rw [Finset.sum_eq_single 0 (fun j _ hj => if_neg (by simpa using hj)) (fun h => absurd (Finset.mem_univ _) h)]
  simp

/-- No running sum is below the first. -/
theorem csum_mono {p : Fin 64 → EReal} (h : Good p) (i : Fin 64) : csum p 0 ≤ csum p i := by
  rcases h with h | h
  · unfold csum
    refine Finset.sum_le_sum fun j _ => ?_
    have h0 : 0 ≤ desc p j := by obtain ⟨v, hv, e⟩ := h (atPlace p j); unfold desc; rw [e]; exact_mod_cast hv
    split_ifs with h1 h2
    · exact le_rfl
    · exact absurd (le_trans h1 (Fin.zero_le i)) h2
    · exact h0
    · exact le_rfl
  · rw [csum_bot h]; exact bot_le

open Classical in
/-- Counting the first place always gives the same number. -/
theorem kst_eq {p : Fin 64 → EReal} (h : Good p) :
    (Finset.univ.filter fun i => i = 0 ∨ csum p i < theta).card = kst p := by
  unfold kst
  by_cases h0 : csum p 0 < theta
  · have e : (Finset.univ.filter fun i => i = 0 ∨ csum p i < theta) = Finset.univ.filter fun i => csum p i < theta :=
      Finset.filter_congr fun i _ => ⟨fun h => h.elim (fun h => h ▸ h0) id, .inr⟩
    rw [e, max_eq_left]
    exact Finset.card_pos.mpr ⟨0, by simpa using h0⟩
  · have e : ∀ i, ¬csum p i < theta := fun i hi => h0 (lt_of_le_of_lt (csum_mono h i) hi)
    simp [e, Finset.filter_eq']

/-- The token takes expert `e`. -/
def Take (p : Fin 64 → EReal) (e : Fin 64) : Prop := rank p e < kst p

open Classical in
/-- The same as 1 or 0. -/
def gate (p : Fin 64 → EReal) (e : Fin 64) : EReal := if Take p e then 1 else 0

/-- The divisor of the weights. -/
def norm (p : Fin 64 → EReal) : EReal := max (∑ e, gate p e * p e) tiny

/-- The divisor is positive. -/
theorem norm_pos (p : Fin 64 → EReal) : 0 < norm p := lt_of_lt_of_le tiny_pos (le_max_right _ _)

/-- The weight of expert `e`. -/
def wgt (p : Fin 64 → EReal) (e : Fin 64) : EReal := Ideal.div (gate p e * p e) (norm p)

/-- The gate of a taken expert. -/
theorem gate_of {p : Fin 64 → EReal} {e : Fin 64} (h : Take p e) : gate p e = 1 := if_pos h
/-- The gate of an expert that is not taken. -/
theorem gate_of_not {p : Fin 64 → EReal} {e : Fin 64} (h : ¬Take p e) : gate p e = 0 := if_neg h

/-- The weight of a taken expert. -/
theorem wgt_of {p : Fin 64 → EReal} {e : Fin 64} (h : Take p e) : wgt p e = Ideal.div (p e) (norm p) := by
  unfold wgt; rw [gate_of h, one_mul]

/-- The weight of an expert that is not taken. -/
theorem wgt_of_not {p : Fin 64 → EReal} {e : Fin 64} (h : ¬Take p e) : wgt p e = 0 := by
  unfold wgt; rw [gate_of_not h, zero_mul, nil_div (norm_pos p)]

open Classical in
/-- The divisor, summed in descending order. -/
theorem norm_eq (p : Fin 64 → EReal) : norm p = max (∑ s : Fin 64, if s.val < kst p then desc p s else 0) tiny := by
  unfold norm
  congr 1
  rw [← Equiv.sum_comp (rankEquiv p).symm]
  refine Finset.sum_congr rfl fun s _ => ?_
  have : Take p (atPlace p s) ↔ s.val < kst p := by unfold Take; rw [rank_atPlace]
  show gate p (atPlace p s) * desc p s = _
  by_cases h : s.val < kst p
  · rw [gate_of (this.mpr h), one_mul, if_pos h]
  · rw [gate_of_not (fun h' => h (this.mp h')), zero_mul, if_neg h]

/-! A batch of rows. -/

variable (P : Fin 2048 → Fin 64 → EReal)

open Classical in
/-- How many tokens before token `t` took expert `e`. -/
def queue (t : ℕ) (e : Fin 64) : ℕ := (Finset.univ.filter fun t' : Fin 2048 => t'.val < t ∧ Take (P t') e).card

/-- Token `t` has place `c` at expert `e`. -/
def Sent (t : Fin 2048) (e : Fin 64) (c : Fin 40) : Prop := Take (P t) e ∧ queue P t.val e = c.val

/-- A sum of ones and zeros counts. -/
theorem sum_ones {ι : Type} [Fintype ι] (Q : ι → Prop) [DecidablePred Q] : (∑ i, if Q i then (1 : EReal) else 0) = ((Finset.univ.filter Q).card : ℝ) := by
  rw [Finset.sum_ite, Finset.sum_const_zero, add_zero, Finset.sum_const]
  simp

open Classical in
/-- A queue length is a sum of gates. -/
theorem queue_eq_sum (t : ℕ) (e : Fin 64) : (((queue P t e : ℕ) : ℝ) : EReal) = ∑ t' : Fin 2048, if t'.val < t then gate (P t') e else 0 := by
  unfold queue
  rw [← sum_ones]
  refine Finset.sum_congr rfl fun t' _ => ?_
  unfold gate
  by_cases h1 : t'.val < t <;> by_cases h2 : Take (P t') e <;> simp [h1, h2]

end Cert.Router

end
-- ==== Proof.Router.Probs.lean ====
module

public import proofs.«01_k».proof.Proof.Router.Sorted
public import proofs.«01_k».proof.Proof.Router.Row

/-! # The probabilities of a block

Each row of the body's probabilities is the softmax of the row's gate values. -/

@[expose] public section

set_option maxRecDepth 16384

noncomputable section

namespace Cert.KernelIdeal.Hand
open Cert.KernelIdeal.Gen Cert.Router
open Idealize.ShloMosaic Idealize.ShloMosaic.TcCoe

/-- The sum of the lanes of each row, taken by halving the row six times. -/
def halves {F : FTy → Type} [FloatOps F] (v12 : FVec F S512x64 .f32) : FVec F S512x1 .f32 :=
  have v15 : FVec F S512x32 .f32 := addf (extractStridedSlice S512x32 ![0, 0] v12 slices_S512x64_o0_0_S512x32)
    (extractStridedSlice S512x32 ![0, 32] v12 slices_S512x64_o0_32_S512x32)
  have v18 : FVec F S512x16 .f32 := addf (extractStridedSlice S512x16 ![0, 0] v15 slices_S512x32_o0_0_S512x16)
    (extractStridedSlice S512x16 ![0, 16] v15 slices_S512x32_o0_16_S512x16)
  have v21 : FVec F S512x8 .f32 := addf (extractStridedSlice S512x8 ![0, 0] v18 slices_S512x16_o0_0_S512x8)
    (extractStridedSlice S512x8 ![0, 8] v18 slices_S512x16_o0_8_S512x8)
  have v24 : FVec F S512x4 .f32 := addf (extractStridedSlice S512x4 ![0, 0] v21 slices_S512x8_o0_0_S512x4)
    (extractStridedSlice S512x4 ![0, 4] v21 slices_S512x8_o0_4_S512x4)
  have v27 : FVec F S512x2 .f32 := addf (extractStridedSlice S512x2 ![0, 0] v24 slices_S512x4_o0_0_S512x2)
    (extractStridedSlice S512x2 ![0, 2] v24 slices_S512x4_o0_2_S512x2)
  addf (extractStridedSlice S512x1 ![0, 0] v27 slices_S512x2_o0_0_S512x1)
    (extractStridedSlice S512x1 ![0, 1] v27 slices_S512x2_o0_1_S512x1)

/-- The gate values of the block as the body computes them. -/
def gatesV {F : FTy → Type} [FloatOps F] (x : Vec F S1x512x1024 .f32) (w : Vec F S1024x64 .f32) : FVec F S512x64 .f32 :=
  transpose S512x64 [1, 0] (matmul dot_S1024x64_S512x1024_S64x512_0_1_1_0_n_n none w
    (shapeCast S512x1024 x shapeCasts_S1x512x1024_S512x1024) (constant S64x512 .f32 0x00000000#32)) transposes_S64x512_p1_0_S512x64

/-- The exponentials of the gate values less the row's largest. -/
def expsV {F : FTy → Type} [FloatOps F] (g : FVec F S512x64 .f32) : FVec F S512x64 .f32 :=
  exp (subf g (broadcastTo S512x64 (shapeCast S512x1 (multiReduction .maximumf [1] S512 g 0xFF800000#32 reduces_S512x64_S512 (.inl rfl) rfl)
    shapeCasts_S512_S512x1) broadcasts_S512x1_S512x64))

/-- The probabilities, from the exponentials. -/
theorem prob_eq {F : FTy → Type} [FloatOps F] (x : Vec F S1x512x1024 .f32) (w : Vec F S1024x64 .f32) :
    prob x w = divf (expsV (gatesV x w)) (broadcastTo S512x64 (halves (expsV (gatesV x w))) broadcasts_S512x1_S512x64) := rfl

/-- A row of `n + n` values summed pairwise across its halves. -/
theorem sum_halves {n m : ℕ} (hm : n + n = m) (f : Fin n → EReal) (h : Fin m → EReal)
    (hf : ∀ i : Fin n, f i = h ⟨i.val, by omega⟩ + h ⟨n + i.val, by omega⟩) : ∑ i, f i = ∑ i, h i := by
  subst hm
  rw [Fin.sum_univ_add, ← Finset.sum_add_distrib]
  exact Finset.sum_congr rfl fun i _ => hf i

/-- Adding halves six times gives the sum of the row. -/
theorem halves_apply (v : FVec Ideal S512x64 .f32) (r : Fin 512) : halves (F := Ideal) v (ix2 r 0) = ∑ e : Fin 64, v (ix2 r e) := by
  unfold halves
  have step : ∀ {n m : ℕ} (hm : n + n = m) (u : FVec Ideal ⟨2, ![512, m]⟩ .f32) (h0 : (⟨2, ![512, m]⟩ : Shape).Slices ![0, 0] ⟨2, ![512, n]⟩)
      (h1 : (⟨2, ![512, m]⟩ : Shape).Slices ![0, n] ⟨2, ![512, n]⟩),
      ∑ i : Fin n, (addf (extractStridedSlice ⟨2, ![512, n]⟩ ![0, 0] u h0) (extractStridedSlice ⟨2, ![512, n]⟩ ![0, n] u h1) : FVec Ideal ⟨2, ![512, n]⟩ .f32) (ix2 r i)
        = ∑ i : Fin m, u (ix2 r i) := by
    intro n m hm u h0 h1
    refine sum_halves hm _ _ fun i => ?_
    show extractStridedSlice _ _ u h0 (ix2 r i) + extractStridedSlice _ _ u h1 (ix2 r i) = _
    congr 1
    · refine extractStridedSlice_apply _ u h0 _ _ ?_
      intro a
      match a with
      | ⟨0, _⟩ => show r.val = 0 + r.val; omega
      | ⟨1, _⟩ => show i.val = 0 + i.val; omega
    · refine extractStridedSlice_apply _ u h1 _ _ ?_
      intro a
      match a with
      | ⟨0, _⟩ => show r.val = 0 + r.val; omega
      | ⟨1, _⟩ => rfl
  refine Eq.trans (Fin.sum_univ_one (f := fun i : Fin 1 => _)).symm ?_
  exact (step (n := 1) (m := 2) rfl _ _ _).trans <| (step (n := 2) (m := 4) rfl _ _ _).trans <| (step (n := 4) (m := 8) rfl _ _ _).trans <|
    (step (n := 8) (m := 16) rfl _ _ _).trans <| (step (n := 16) (m := 32) rfl _ _ _).trans <| step (n := 32) (m := 64) rfl v _ _

/-- The gate values of the token in row `r` of a block. -/
def gatesK (x : Vec Ideal S1x512x1024 .f32) (w : Vec Ideal S1024x64 .f32) (r : Fin 512) (e : Fin 64) : EReal :=
  ∑ d : Fin 1024, x (ix3 0 r d) * w (ix2 d e)

/-- The gating logits of a block. -/
theorem gatesV_apply (x : Vec Ideal S1x512x1024 .f32) (w : Vec Ideal S1024x64 .f32) (r : Fin 512) (e : Fin 64) :
    gatesV (F := Ideal) x w (ix2 r e) = gatesK x w r e := by
  unfold gatesK
  pointwise [gatesV]
  first | rfl | (refine Finset.sum_congr rfl fun d _ => ?_; exact mul_comm _ _)

/-- The probabilities of the token in row `r` of a block: the softmax of its gate values. -/
def rowP (x : Vec Ideal S1x512x1024 .f32) (w : Vec Ideal S1024x64 .f32) (r : Fin 512) : Fin 64 → EReal := soft (gatesK x w r)

/-- The exponentials of a block. -/
theorem expsV_apply (g : FVec Ideal S512x64 .f32) (r : Fin 512) (e : Fin 64) :
    expsV (F := Ideal) g (ix2 r e) = Ideal.exp (g (ix2 r e) - top fun e => g (ix2 r e)) := by
  unfold top
  pointwise [expsV]
  rw [bits_neg_inf]

/-- The probabilities of a block's token are the softmax of its logits. -/
theorem prob_apply (x : Vec Ideal S1x512x1024 .f32) (w : Vec Ideal S1024x64 .f32) (r : Fin 512) (e : Fin 64) :
    prob (F := Ideal) x w (ix2 r e) = rowP x w r e := by
  have h : prob (F := Ideal) x w (ix2 r e)
      = Ideal.div (expsV (F := Ideal) (gatesV x w) (ix2 r e)) (halves (F := Ideal) (expsV (gatesV x w)) (ix2 r 0)) := by
    rw [prob_eq]; generalize halves (F := Ideal) (expsV (gatesV x w)) = u; pointwise
  rw [h, halves_apply]
  simp only [expsV_apply, gatesV_apply]
  rfl

end Cert.KernelIdeal.Hand

end
-- ==== Proof.Router.Count.lean ====
module

public import proofs.«01_k».proof.Proof.Router.Probs

/-! # How many experts a token takes

The body's running sums of the sorted row, and their count. -/

@[expose] public section

set_option maxRecDepth 16384

noncomputable section

namespace Cert.KernelIdeal.Hand
open Cert.KernelIdeal.Gen Cert.Router
open Idealize.ShloMosaic Idealize.ShloMosaic.TcCoe

section Printed
variable {F : FTy → Type} [FloatOps F]

/-- A test as the number 1 or 0. -/
abbrev numV {s : Shape} (c : IVec s 1) : FVec F s .f32 := sitofp .f32 (extui 32 c natLt_1_32)

/-- The running sums by two products with the triangle of ones. -/
def csumA (s : FVec F S512x64 .f32) : FVec F S512x64 .f32 :=
  have tri : FVec F S64x64 .f32 := numV (cmpi .sle (iota .tc S64x64 32 [0] iota_S64x64_d0_w32) (iota .tc S64x64 32 [1] iota_S64x64_d1_w32))
  have hd : FVec F S512x64 .f32 := extf .f32 (truncf .bf16 s bitsLt_bf16_f32) bitsLt_bf16_f32
  addf (matmul dot_S512x64_S64x64_S512x64_1_0_0_1_n_n none hd tri (constant S512x64 .f32 0x00000000#32))
    (matmul dot_S512x64_S64x64_S512x64_1_0_0_1_n_n none (subf s hd) tri (constant S512x64 .f32 0x00000000#32))

/-- Lane `n` taken from the lane before it in `a` plus the lane itself in `s`. -/
def patch (n : BitVec 32) (a s b : FVec F S512x64 .f32) : FVec F S512x64 .f32 :=
  select (broadcastTo S512x64 (shapeCast S1x64 (cmpi .eq lanes (broadcast S1x64 n)) shapeCasts_S1x64_S1x64) broadcasts_S1x64_S512x64)
    (addf (dynamicRotate 1 1#32 none a rotates_S512x64_d1) s) b

def csumV (s : FVec F S512x64 .f32) : FVec F S512x64 .f32 :=
  patch 2#32 (patch 1#32 s s (csumA s)) s (patch 1#32 s s (csumA s))

/-- The count of the running sums below the threshold, at least one. -/
def countOf (c : FVec F S512x64 .f32) : FVec F S512x1 .f32 :=
  maximumf (shapeCast S512x1 (multiReduction .add [1] S512 (numV (cmpf .olt c (broadcast S512x64 (Scalar.ofBits .f32 0x3F4CCCCD#32))))
    0x00000000#32 reduces_S512x64_S512 (.inl rfl) rfl) shapeCasts_S512_S512x1) (broadcast S512x1 (Scalar.ofBits .f32 0x3F800000#32))

/-- The body counts the kept experts in the running sums. -/
theorem count_eq (x : Vec F S1x512x1024 .f32) (w : Vec F S1024x64 .f32) : count x w = countOf (csumV (sorted x w)) := rfl

end Printed

/-- A test as a number. -/
theorem bit_num (b : Bool) : (FloatOps.sitofp (F := Ideal) .f32 ((BitVec.ofBool b).setWidth 32) : EReal) = if b then 1 else 0 := by
  show ((((BitVec.ofBool b).setWidth 32).toInt : ℝ) : EReal) = _
  cases b <;> simp

/-- The comparison of two lane numbers for equality. -/
theorem lane_is : ∀ (n : Fin 3) (l : Fin 64), IntOp.cmpi .eq (BitVec.ofNat 32 l.val) (BitVec.ofNat 32 n.val) = BitVec.ofBool (decide (l.val = n.val)) := by
  decide +kernel

/-- The comparison of two lane numbers for order. -/
theorem lane_sle : ∀ (j l : Fin 64), IntOp.cmpi .sle (BitVec.ofNat 32 j.val) (BitVec.ofNat 32 l.val) = BitVec.ofBool (decide (j ≤ l)) := by
  decide +kernel

/-- A step that puts one lane of a running sum into its place. -/
theorem patch_apply (n : ℕ) (hn : n < 3) (h1 : 1 ≤ n) (a s b : FVec Ideal S512x64 .f32) (r : Fin 512) (l : Fin 64) :
    patch (BitVec.ofNat 32 n) a s b (ix2 r l)
      = if l.val = n then a (ix2 r ⟨n - 1, by omega⟩) + s (ix2 r ⟨n, by omega⟩) else b (ix2 r l) := by
  have e : patch (BitVec.ofNat 32 n) a s b (ix2 r l)
      = Scalar.select (IntOp.cmpi .eq (BitVec.ofNat 32 l.val) (BitVec.ofNat 32 n))
          (dynamicRotate 1 1#32 none a rotates_S512x64_d1 (ix2 r l) + s (ix2 r l)) (b (ix2 r l)) := by
    unfold patch lanes; generalize dynamicRotate 1 1#32 none a rotates_S512x64_d1 = u; pointwise
  rw [e, lane_is ⟨n, hn⟩ l]
  by_cases h : l.val = n
  · subst h
    simp only [decide_true, if_true]
    show dynamicRotate 1 1#32 none a rotates_S512x64_d1 _ + _ = _
    rw [dynamicRotate_apply 1 _ a _ _ (ix2 r ⟨l.val - 1, by omega⟩)]
    intro c
    match c with
    | ⟨0, _⟩ => rfl
    | ⟨1, _⟩ =>
      show l.val - 1 = (l.val + 64 - (1#32 : BitVec 32).toNat % 64) % 64
      have : (1#32 : BitVec 32).toNat = 1 := rfl
      omega
  · simp only [h, decide_false, if_false]; rfl

/-- The running sums of a row. -/
theorem csumA_apply (s : FVec Ideal S512x64 .f32) (r : Fin 512) (l : Fin 64) :
    csumA s (ix2 r l) = (∑ j : Fin 64, s (ix2 r j) * (if j ≤ l then 1 else 0))
      + ∑ j : Fin 64, (s (ix2 r j) - s (ix2 r j)) * (if j ≤ l then 1 else 0) := by
  pointwise [csumA, numV]
  simp only [bits_zero, zero_add, lane_sle, bit_num, decide_eq_true_eq]

/-- The body's running sums are the sums of the row's first entries. -/
theorem csumV_apply (s : FVec Ideal S512x64 .f32) (r : Fin 512) (p : Fin 64 → EReal) (hp : Good p)
    (h : ∀ l, s (ix2 r l) = desc p l) (l : Fin 64) : csumV s (ix2 r l) = csum p l := by
  have hA : csumA s (ix2 r l) = csum p l := by
    rw [csumA_apply]
    simp only [h]
    have e : (∑ j : Fin 64, desc p j * (if j ≤ l then 1 else 0)) = csum p l := by
      unfold csum
      refine Finset.sum_congr rfl fun j _ => ?_
      split_ifs <;> simp
    rw [e]
    rcases hp with hp | hp
    · rw [Finset.sum_eq_zero, add_zero]
      intro j _
      obtain ⟨v, -, hv⟩ := hp (atPlace p j)
      unfold desc
      rw [hv, ← EReal.coe_sub, sub_self, EReal.coe_zero, zero_mul]
    · rw [csum_bot hp, EReal.bot_add]
  have one : csum p 1 = desc p 0 + desc p 1 := by
    unfold csum
    rw [Fin.sum_univ_succ, Fin.sum_univ_succ, Finset.sum_eq_zero]
    · simp
    · intro j _
      refine if_neg ?_
      simp [Fin.le_def]
  have two : csum p 2 = desc p 0 + desc p 1 + desc p 2 := by
    unfold csum
    rw [Fin.sum_univ_succ, Fin.sum_univ_succ, Fin.sum_univ_succ, Finset.sum_eq_zero]
    · simp [add_assoc, Fin.le_def]
    · intro j _
      refine if_neg ?_
      simp [Fin.le_def]
  unfold csumV
  rw [patch_apply 2 (by norm_num) (by norm_num), patch_apply 1 (by norm_num) (by norm_num), patch_apply 1 (by norm_num) (by norm_num)]
  by_cases h2 : l.val = 2
  · rw [if_pos h2, if_pos rfl, h, h, h, show l = 2 from Fin.ext h2, two]; rfl
  · rw [if_neg h2]
    by_cases h1 : l.val = 1
    · rw [if_pos h1, h, h, show l = 1 from Fin.ext h1, one]; rfl
    · rw [if_neg h1, hA]

/-- The count from a row of running sums. -/
theorem countOf_apply (c : FVec Ideal S512x64 .f32) (r : Fin 512) (p : Fin 64 → EReal)
    (h : ∀ l, c (ix2 r l) = csum p l) : countOf c (ix2 r 0) = ((kst p : ℝ) : EReal) := by
  have e : countOf c (ix2 r 0) = max (∑ l : Fin 64, if csum p l < theta then (1 : EReal) else 0) 1 := by
    unfold theta
    pointwise [countOf, numV]
    simp only [bits_one, h, Ideal.cmp, bit_num, decide_eq_true_eq]
  classical
  rw [e, sum_ones]
  unfold kst
  rw [Nat.cast_max, EReal.coe_strictMono.monotone.map_max]
  congr 1
  simp

/-- The number of kept experts of a token, as a real. -/
theorem count_apply (x : Vec Ideal S1x512x1024 .f32) (w : Vec Ideal S1024x64 .f32) (r : Fin 512) :
    count (F := Ideal) x w (ix2 r 0) = ((kst (rowP x w r) : ℝ) : EReal) := by
  rw [count_eq]
  refine countOf_apply _ r _ fun l => csumV_apply _ r _ (soft_good _) (fun l => ?_) l
  rw [sorted_apply]; simp only [prob_apply]; rfl

/-- That number on every lane. -/
theorem countL_apply (x : Vec Ideal S1x512x1024 .f32) (w : Vec Ideal S1024x64 .f32) (r : Fin 512) (l : Fin 64) :
    countL (F := Ideal) x w (ix2 r l) = ((kst (rowP x w r) : ℝ) : EReal) := by
  rw [← count_apply]
  have : countL (F := Ideal) x w = broadcastTo S512x64 (shapeCast S512x1 (count x w) shapeCasts_S512x1_S512x1) broadcasts_S512x1_S512x64 := rfl
  rw [this]; generalize count (F := Ideal) x w = u; pointwise

end Cert.KernelIdeal.Hand

end
-- ==== Proof.Router.Keep.lean ====
module

public import proofs.«01_k».proof.Proof.Router.Count

/-! # Which experts a token takes, and with what weights

The body finds the smallest probability taken, takes everything above it, and of what equals it the first few. -/

@[expose] public section

set_option maxRecDepth 16384

noncomputable section

namespace Cert.KernelIdeal.Hand
open Cert.KernelIdeal.Gen Cert.Router
open Idealize.ShloMosaic Idealize.ShloMosaic.TcCoe

section Printed
variable {F : FTy → Type} [FloatOps F]

/-- The smallest probability taken. -/
def tauV (s kl : FVec F S512x64 .f32) : FVec F S512x1 .f32 :=
  shapeCast S512x1 (multiReduction .minimumf [1] S512
    (select (cmpf .olt (broadcastTo S512x64 (sitofp .f32 lanes) broadcasts_S1x64_S512x64) kl) s
      (broadcast S512x64 (Scalar.ofBits .f32 0x7F800000#32))) 0x7F800000#32 reduces_S512x64_S512 (.inl rfl) rfl) shapeCasts_S512_S512x1

/-- What lies above it, what equals it. -/
def aboveV (p : FVec F S512x64 .f32) (t : FVec F S512x1 .f32) : FVec F S512x64 .f32 :=
  numV (cmpf .ogt p (broadcastTo S512x64 t broadcasts_S512x1_S512x64))
def equalV (p : FVec F S512x64 .f32) (t : FVec F S512x1 .f32) : FVec F S512x64 .f32 :=
  numV (cmpf .oeq p (broadcastTo S512x64 t broadcasts_S512x1_S512x64))

/-- The experts taken, from the probabilities, the smallest one taken and the count. -/
def keepOf (a q : FVec F S512x64 .f32) (k : FVec F S512x1 .f32) : FVec F S512x64 .f32 :=
  addf a (mulf q (numV (cmpf .olt
    (matmul dot_S512x64_S64x64_S512x64_1_0_0_1_n_n none q k0_pay50 (constant S512x64 .f32 0x00000000#32))
    (broadcastTo S512x64 (subf k (shapeCast S512x1 (multiReduction .add [1] S512 a 0x00000000#32 reduces_S512x64_S512 (.inl rfl) rfl)
      shapeCasts_S512_S512x1)) broadcasts_S512x1_S512x64))))

/-- The masks, from the count and the probabilities. -/
theorem keep_eq (x : Vec F S1x512x1024 .f32) (w : Vec F S1024x64 .f32) :
    keep x w = keepOf (aboveV (prob x w) (tauV (sorted x w) (countL x w))) (equalV (prob x w) (tauV (sorted x w) (countL x w))) (count x w) := rfl

/-- The weights, from what is taken and the probabilities. -/
def weightOf (kp p : FVec F S512x64 .f32) : FVec F S512x64 .f32 :=
  divf (mulf kp p) (broadcastTo S512x64 (maximumf (shapeCast S512x1 (multiReduction .add [1] S512 (mulf kp p) 0x00000000#32
    reduces_S512x64_S512 (.inl rfl) rfl) shapeCasts_S512_S512x1) (broadcast S512x1 (Scalar.ofBits .f32 0x3089705F#32)))
    broadcasts_S512x1_S512x64)

/-- The weights, from the masks and the probabilities. -/
theorem weight_eq (x : Vec F S1x512x1024 .f32) (w : Vec F S1024x64 .f32) : weight x w = weightOf (keep x w) (prob x w) := rfl

end Printed

/-- The strict comparison of two lane numbers. -/
theorem lane_slt : ∀ (j l : Fin 64), IntOp.cmpi .slt (BitVec.ofNat 32 j.val) (BitVec.ofNat 32 l.val) = BitVec.ofBool (decide (j < l)) := by
  decide +kernel

/-- A lane number as a real. -/
theorem lane_num : ∀ l : Fin 64, (FloatOps.sitofp (F := Ideal) .f32 (BitVec.ofNat 32 l.val) : EReal) = ((l.val : ℝ) : EReal) := by
  intro l
  show (((BitVec.ofNat 32 l.val).toInt : ℝ) : EReal) = _
  have : (BitVec.ofNat 32 l.val).toInt = (l.val : ℤ) := by revert l; decide +kernel
  rw [this]; simp

/-- The last kept probability of a row. -/
theorem tauV_apply (s kl : FVec Ideal S512x64 .f32) (r : Fin 512) (p : Fin 64 → EReal) (hs : ∀ l, s (ix2 r l) = desc p l)
    (k : ℕ) (h1 : 1 ≤ k) (h2 : k ≤ 64) (hk : ∀ l, kl (ix2 r l) = ((k : ℝ) : EReal)) :
    tauV s kl (ix2 r 0) = desc p ⟨k - 1, by omega⟩ := by
  have e : tauV s kl (ix2 r 0) = Finset.univ.fold min ⊤ fun l : Fin 64 => if l.val < k then desc p l else ⊤ := by
    pointwise [tauV, lanes]
    rw [bits_pos_inf]
    simp only [hs, hk, lane_num, Ideal.cmp, EReal.coe_lt_coe_iff, Nat.cast_lt]
  rw [e]
  refine le_antisymm ?_ ?_
  · rw [Finset.fold_min_le]
    refine .inr ⟨⟨k - 1, by omega⟩, Finset.mem_univ _, ?_⟩
    rw [if_pos (show k - 1 < k by omega)]
  · rw [Finset.le_fold_min]
    refine ⟨le_top, fun l _ => ?_⟩
    split_ifs with h
    · exact desc_antitone p (show l.val ≤ k - 1 by omega)
    · exact le_top

open Classical in
/-- A row of masks from its last kept probability. -/
theorem keepOf_apply (a q : FVec Ideal S512x64 .f32) (c : FVec Ideal S512x1 .f32) (r : Fin 512) (p : Fin 64 → EReal) (t : EReal) (k : ℕ)
    (ha : ∀ l, a (ix2 r l) = if t < p l then 1 else 0) (hq : ∀ l, q (ix2 r l) = if p l = t then 1 else 0)
    (hc : c (ix2 r 0) = ((k : ℝ) : EReal)) (e : Fin 64) :
    keepOf a q c (ix2 r e) = if t < p e ∨ (p e = t ∧ (Finset.univ.filter fun e' => p e' = t ∧ e' < e).card
          + (Finset.univ.filter fun e' => t < p e').card < k) then 1 else 0 := by
  have h : keepOf a q c (ix2 r e) = a (ix2 r e) + q (ix2 r e) *
      (if (∑ j : Fin 64, q (ix2 r j) * (if j < e then 1 else 0)) < c (ix2 r 0) - ∑ j : Fin 64, a (ix2 r j) then 1 else 0) := by
    pointwise [keepOf, numV, k0_pay50]
    simp only [bits_zero, zero_add, lane_slt, bit_num, decide_eq_true_eq, Ideal.cmp]
  have hsum : (∑ j : Fin 64, q (ix2 r j) * (if j < e then 1 else 0)) = (((Finset.univ.filter fun e' => p e' = t ∧ e' < e).card : ℝ) : EReal) := by
    rw [← sum_ones]
    refine Finset.sum_congr rfl fun j _ => ?_
    rw [hq]
    by_cases h1 : p j = t <;> by_cases h2 : j < e <;> simp [h1, h2]
  have hab : (∑ j : Fin 64, a (ix2 r j)) = (((Finset.univ.filter fun e' => t < p e').card : ℝ) : EReal) := by
    rw [← sum_ones]
    exact Finset.sum_congr rfl fun j _ => ha j
  rw [h, hsum, hab, hc, ha, hq, ← EReal.coe_sub]
  simp only [EReal.coe_lt_coe_iff, lt_sub_iff_add_lt]
  norm_cast
  by_cases h1 : t < p e
  · have h2 : ¬p e = t := fun h => absurd h1 (by rw [h]; exact lt_irrefl _)
    simp [h1, h2]
  · by_cases h2 : p e = t
    · simp [h2]
    · simp [h1, h2]

/-- The masks of a token are its gates. -/
theorem keep_apply (x : Vec Ideal S1x512x1024 .f32) (w : Vec Ideal S1024x64 .f32) (r : Fin 512) (e : Fin 64) :
    keep (F := Ideal) x w (ix2 r e) = gate (rowP x w r) e := by
  classical
  have ht : tauV (sorted (F := Ideal) x w) (countL x w) (ix2 r 0) = desc (rowP x w r) ⟨kst (rowP x w r) - 1, by
      have := kst_le (rowP x w r); have := one_le_kst (rowP x w r); omega⟩ :=
    tauV_apply _ _ r (rowP x w r) (fun l => by rw [sorted_apply]; simp only [prob_apply]) _ (one_le_kst _) (kst_le _)
      (countL_apply x w r)
  have hA : ∀ l, aboveV (prob (F := Ideal) x w) (tauV (sorted x w) (countL x w)) (ix2 r l)
      = if tauV (sorted (F := Ideal) x w) (countL x w) (ix2 r 0) < rowP x w r l then 1 else 0 := by
    intro l
    generalize tauV (sorted (F := Ideal) x w) (countL x w) = u
    rw [← prob_apply]; generalize prob (F := Ideal) x w = v
    pointwise [aboveV, numV]
    simp only [bit_num, decide_eq_true_eq, Ideal.cmp]
  have hE : ∀ l, equalV (prob (F := Ideal) x w) (tauV (sorted x w) (countL x w)) (ix2 r l)
      = if rowP x w r l = tauV (sorted (F := Ideal) x w) (countL x w) (ix2 r 0) then 1 else 0 := by
    intro l
    generalize tauV (sorted (F := Ideal) x w) (countL x w) = u
    rw [← prob_apply]; generalize prob (F := Ideal) x w = v
    pointwise [equalV, numV]
    simp only [bit_num, decide_eq_true_eq, Ideal.cmp]
  rw [keep_eq, keepOf_apply _ _ _ r (rowP x w r) _ _ hA hE (count_apply x w r) e, ht]
  have hiff := rank_lt_iff (rowP x w r) (kst (rowP x w r)) (one_le_kst _) (kst_le _) e
  by_cases hT : Take (rowP x w r) e
  · rw [gate_of hT]; exact if_pos (hiff.mp hT)
  · rw [gate_of_not hT]; exact if_neg fun h => hT (hiff.mpr h)

/-- The weights of a token. -/
theorem weight_apply (x : Vec Ideal S1x512x1024 .f32) (w : Vec Ideal S1024x64 .f32) (r : Fin 512) (e : Fin 64) :
    weight (F := Ideal) x w (ix2 r e) = wgt (rowP x w r) e := by
  have h : weight (F := Ideal) x w (ix2 r e) = Ideal.div (keep (F := Ideal) x w (ix2 r e) * prob (F := Ideal) x w (ix2 r e))
      (max (∑ j : Fin 64, keep (F := Ideal) x w (ix2 r j) * prob (F := Ideal) x w (ix2 r j)) tiny) := by
    rw [weight_eq]; generalize keep (F := Ideal) x w = u; generalize prob (F := Ideal) x w = v
    unfold tiny
    pointwise [weightOf]
  rw [h]
  simp only [keep_apply, prob_apply]
  rfl

end Cert.KernelIdeal.Hand

end
-- ==== Proof.Router.Outs.lean ====
module

public import proofs.«01_k».proof.Proof.Router.Keep
public import Idealize.ShloMosaic.Lib.WordCmp

/-! # What a block's outputs hold

The queue places, the carried sums and the three output blocks, read at an index. -/

@[expose] public section

set_option maxRecDepth 16384

noncomputable section

namespace Cert.KernelIdeal.Hand
open Cert.KernelIdeal.Gen Cert.Router
open Idealize.ShloMosaic Idealize.ShloMosaic.TcCoe

section Printed
variable {F : FTy → Type} [FloatOps F]

/-- The places in the queues. -/
def placeOf (kp : FVec F S512x64 .f32) (s : FVec F S1x64 .f32) : FVec F S512x64 .f32 :=
  addf (matmul dot_S512x512_S512x64_S512x64_1_0_0_1_n_n none
    (numV (cmpi .sgt (iota .tc S512x512 32 [0] iota_S512x512_d0_w32) (iota .tc S512x512 32 [1] iota_S512x512_d1_w32))) kp
    (constant S512x64 .f32 0x00000000#32)) (broadcastTo S512x64 s broadcasts_S1x64_S512x64)

/-- The sums of the columns. -/
def colsV (v : FVec F S512x64 .f32) : FVec F S1x64 .f32 :=
  shapeCast S1x64 (multiReduction .add [0] S64 v 0x00000000#32 reduces_S512x64_S64 (.inl rfl) rfl) shapeCasts_S64_S1x64

/-- One row repeated eight times. -/
def eight (v : FVec F S1x64 .f32) : FVec F S8x64 .f32 :=
  broadcastTo S8x64 (shapeCast S1x64 v shapeCasts_S1x64_S1x64) broadcasts_S1x64_S8x64

variable (x : Vec F S1x512x1024 .f32) (w : Vec F S1024x64 .f32)

/-- The places, from the masks and the carried counts. -/
theorem place_eq (s : Vec F S8x64 .f32) : place x w s = placeOf (keep x w) (row0 s) := rfl
/-- The counts of a block are the sums of its columns. -/
theorem taken_eq : taken x w = colsV (keep x w) := rfl
/-- The carried counts after a block. -/
theorem carryNext_eq (s : Vec F S8x64 .f32) :
    carryNext x w s = shapeCast S8x64 (eight (addf (row0 s) (colsV (keep x w)))) shapeCasts_S8x64_S8x64 := rfl
/-- The carried sums of masks after a block. -/
theorem maskNext_eq (s : Vec F S8x64 .f32) :
    maskNext x w s = shapeCast S8x64 (addf s (eight (colsV (keep x w)))) shapeCasts_S8x64_S8x64 := rfl
/-- The carried sums of probabilities after a block. -/
theorem probNext_eq (s : Vec F S8x64 .f32) :
    probNext x w s = shapeCast S8x64 (addf s (eight (colsV (prob x w)))) shapeCasts_S8x64_S8x64 := rfl

/-- Where a token goes: its place, or 40 where it is not sent. -/
def slotOf (kp pl : FVec F S512x64 .f32) : FVec F S512x64 .f32 :=
  have m : FVec F S512x64 .f32 := mulf kp (numV (cmpf .olt pl (broadcast S512x64 (Scalar.ofBits .f32 0x42200000#32))))
  addf (mulf pl m) (mulf (broadcast S512x64 (Scalar.ofBits .f32 0x42200000#32)) (subf (broadcast S512x64 (Scalar.ofBits .f32 0x3F800000#32)) m))

/-- The dispatch numbers from where the tokens go. -/
def hitOf (sl : FVec F S512x64 .f32) (r : FVec F S64x2560 .f32) (q : FVec F S1x2560 .f32) : FVec F S512x2560 .f32 :=
  numV (cmpf .oeq (matmul dot_S512x64_S64x2560_S512x2560_1_0_0_1_n_n none sl (shapeCast S64x2560 r shapeCasts_S64x2560_S64x2560)
    (constant S512x2560 .f32 0x00000000#32)) (broadcastTo S512x2560 (shapeCast S1x2560 q shapeCasts_S1x2560_S1x2560) broadcasts_S1x2560_S512x2560))

/-- The first output block, from its parts. -/
theorem dispBlock_eq (r : Vec F S64x2560 .f32) (q : Vec F S8x2560 .f32) (s : Vec F S8x64 .f32) :
    dispBlock x w r q s = shapeCast S1x512x2560 (hitOf (slotOf (keep x w) (place x w s)) r (lane0 q)) shapeCasts_S512x2560_S1x512x2560 := rfl

/-- The second output block, from its parts. -/
theorem combBlock_eq (r : Vec F S64x2560 .f32) (q : Vec F S8x2560 .f32) (s : Vec F S8x64 .f32) :
    combBlock x w r q s = shapeCast S1x512x2560 (mulf (hitOf (slotOf (keep x w) (place x w s)) r (lane0 q))
      (matmul dot_S512x64_S64x2560_S512x2560_1_0_0_1_n_n none (weight x w) (shapeCast S64x2560 r shapeCasts_S64x2560_S64x2560)
        (constant S512x2560 .f32 0x00000000#32))) shapeCasts_S512x2560_S1x512x2560 := rfl

end Printed

/-- The first row of a carried array. -/
theorem row0_apply (s : Vec Ideal S8x64 .f32) (e : Fin 64) : row0 (F := Ideal) s (ix2 0 e) = s (ix2 0 e) := by
  show s _ = s _
  congr 1
  funext a
  match a with
  | ⟨0, _⟩ => rfl
  | ⟨1, _⟩ => exact Fin.ext (show 0 + 1 * e.val = e.val by omega)

/-- The first row of the second table. -/
theorem lane0_apply (q : Vec Ideal S8x2560 .f32) (l : Fin 2560) : lane0 (F := Ideal) q (ix2 0 l) = q (ix2 0 l) := by
  show q _ = q _
  congr 1
  funext a
  match a with
  | ⟨0, _⟩ => rfl
  | ⟨1, _⟩ => exact Fin.ext (show 0 + 1 * l.val = l.val by omega)

/-- The comparison of two row numbers. -/
theorem row_sgt (r k : Fin 512) : IntOp.cmpi .sgt (BitVec.ofNat 32 r.val) (BitVec.ofNat 32 k.val) = BitVec.ofBool (decide (k.val < r.val)) := by
  rw [WordCmp.cmpi_sgt_ofNat (by omega) (by omega)]

/-- The place of a token: the carried count and the earlier masks of its block. -/
theorem placeOf_apply (kp : FVec Ideal S512x64 .f32) (s : FVec Ideal S1x64 .f32) (r : Fin 512) (e : Fin 64) :
    placeOf kp s (ix2 r e) = (∑ k : Fin 512, if k.val < r.val then kp (ix2 k e) else 0) + s (ix2 0 e) := by
  pointwise [placeOf, numV]
  simp only [bits_zero, zero_add, row_sgt, bit_num, decide_eq_true_eq, ite_mul, one_mul, zero_mul]

variable (x : Vec Ideal S1x512x1024 .f32) (w : Vec Ideal S1024x64 .f32)

/-- That place, from the block's own masks. -/
theorem place_apply (s : Vec Ideal S8x64 .f32) (r : Fin 512) (e : Fin 64) :
    place (F := Ideal) x w s (ix2 r e) = (∑ k : Fin 512, if k.val < r.val then gate (rowP x w k) e else 0) + s (ix2 0 e) := by
  rw [place_eq, placeOf_apply, row0_apply]; simp only [keep_apply]

/-- The sum of a column. -/
theorem colsV_apply (v : FVec Ideal S512x64 .f32) (e : Fin 64) : colsV v (ix2 0 e) = ∑ k : Fin 512, v (ix2 k e) := by
  pointwise [colsV]

/-- A row spread over eight rows. -/
theorem eight_apply (v : FVec Ideal S1x64 .f32) (i : Fin 8) (e : Fin 64) : eight v (ix2 i e) = v (ix2 0 e) := by
  pointwise [eight]

/-- The carried counts after a block, at an element. -/
theorem carryNext_apply (s : Vec Ideal S8x64 .f32) (i : Fin 8) (e : Fin 64) :
    carryNext (F := Ideal) x w s (ix2 i e) = s (ix2 0 e) + ∑ k : Fin 512, gate (rowP x w k) e := by
  rw [carryNext_eq, shapeCast_self, eight_apply]
  show row0 (F := Ideal) s (ix2 0 e) + colsV (keep (F := Ideal) x w) (ix2 0 e) = _
  rw [row0_apply, colsV_apply]; simp only [keep_apply]

/-- The carried sums of masks after a block, at an element. -/
theorem maskNext_apply (s : Vec Ideal S8x64 .f32) (i : Fin 8) (e : Fin 64) :
    maskNext (F := Ideal) x w s (ix2 i e) = s (ix2 i e) + ∑ k : Fin 512, gate (rowP x w k) e := by
  rw [maskNext_eq, shapeCast_self]
  show s (ix2 i e) + eight (colsV (keep (F := Ideal) x w)) (ix2 i e) = _
  rw [eight_apply, colsV_apply]; simp only [keep_apply]

/-- The carried sums of probabilities after a block, at an element. -/
theorem probNext_apply (s : Vec Ideal S8x64 .f32) (i : Fin 8) (e : Fin 64) :
    probNext (F := Ideal) x w s (ix2 i e) = s (ix2 i e) + ∑ k : Fin 512, rowP x w k e := by
  rw [probNext_eq, shapeCast_self]
  show s (ix2 i e) + eight (colsV (prob (F := Ideal) x w)) (ix2 i e) = _
  rw [eight_apply, colsV_apply]; simp only [prob_apply]

/-- Where a token goes that has place `n` at an expert. -/
theorem slotOf_apply (kp pl : FVec Ideal S512x64 .f32) (i : S512x64.Idx) (p : Fin 64 → EReal) (e : Fin 64) (n : ℕ)
    (hk : kp i = gate p e) (hp : pl i = ((n : ℝ) : EReal)) (c : ℕ) (hc : c < 40) :
    slotOf kp pl i = ((c : ℝ) : EReal) ↔ Take p e ∧ n = c := by
  have h : slotOf kp pl i = pl i * (kp i * (if pl i < ((40 : ℝ) : EReal) then 1 else 0))
      + ((40 : ℝ) : EReal) * (1 - kp i * (if pl i < ((40 : ℝ) : EReal) then 1 else 0)) := by
    pointwise [slotOf, numV]
    simp only [bits_one, bits_forty, bit_num, decide_eq_true_eq, Ideal.cmp]
  rw [h, hk, hp]
  have h0 : (1 : EReal) - 1 = 0 := by rw [← EReal.coe_one, ← EReal.coe_sub, sub_self, EReal.coe_zero]
  have hc' : ¬(40 : ℝ) = (c : ℝ) := fun h => by
    have : (40 : ℕ) = c := by exact_mod_cast h
    omega
  have h40 : ((n : ℝ) : EReal) < ((40 : ℝ) : EReal) ↔ n < 40 := by
    rw [EReal.coe_lt_coe_iff]; exact_mod_cast Iff.rfl
  by_cases hT : Take p e
  · rw [gate_of hT]
    by_cases hn : n < 40
    · simp only [h40, hn, if_true, mul_one, h0, mul_zero, add_zero, hT, true_and, EReal.coe_eq_coe_iff, Nat.cast_inj]
    · simp only [h40, hn, if_false, mul_zero, sub_zero, mul_one, zero_add, hT, true_and, EReal.coe_eq_coe_iff, hc', false_iff]
      omega
  · rw [gate_of_not hT]
    simp only [zero_mul, mul_zero, sub_zero, mul_one, zero_add, hT, false_and, EReal.coe_eq_coe_iff, hc']

open Classical in
/-- A lane is hit when it has the place of its expert. -/
theorem hitOf_apply (sl : FVec Ideal S512x64 .f32) (rs : FVec Ideal S64x2560 .f32) (q : FVec Ideal S1x2560 .f32) (r : Fin 512) (l : Fin 2560)
    (hr : ∀ k : Fin 64, rs (ix2 k l) = if k.val = l.val / 40 then 1 else 0) :
    hitOf sl rs q (ix2 r l) = if sl (ix2 r ⟨l.val / 40, by omega⟩) = q (ix2 0 l) then 1 else 0 := by
  have h : hitOf sl rs q (ix2 r l) = if (∑ k : Fin 64, sl (ix2 r k) * rs (ix2 k l)) = q (ix2 0 l) then 1 else 0 := by
    pointwise [hitOf, numV]
    simp only [bits_zero, zero_add, bit_num, decide_eq_true_eq, Ideal.cmp]
  rw [h, Finset.sum_eq_single ⟨l.val / 40, by omega⟩]
  · rw [hr, if_pos rfl, mul_one]
  · intro k _ hk
    rw [hr, if_neg (fun h => hk (Fin.ext h)), mul_zero]
  · intro h; exact absurd (Finset.mem_univ _) h

open Classical in
/-- The dispatch block: 1 where the token in row `r` has place `l % 40` at expert `l / 40`. -/
theorem dispBlock_apply (rs : Vec Ideal S64x2560 .f32) (q : Vec Ideal S8x2560 .f32) (s : Vec Ideal S8x64 .f32) (r : Fin 512) (l : Fin 2560)
    (hr : ∀ (k : Fin 64) (l : Fin 2560), rs (ix2 k l) = if k.val = l.val / 40 then 1 else 0)
    (hq : ∀ l : Fin 2560, q (ix2 0 l) = (((l.val % 40 : ℕ) : ℝ) : EReal)) (n : ℕ)
    (hn : place (F := Ideal) x w s (ix2 r ⟨l.val / 40, by omega⟩) = ((n : ℝ) : EReal)) :
    dispBlock (F := Ideal) x w rs q s (ix3 0 r l)
      = if Take (rowP x w r) ⟨l.val / 40, by omega⟩ ∧ n = l.val % 40 then 1 else 0 := by
  have h : dispBlock (F := Ideal) x w rs q s (ix3 0 r l)
      = hitOf (slotOf (keep (F := Ideal) x w) (place (F := Ideal) x w s)) rs (lane0 q) (ix2 r l) := by
    rw [dispBlock_eq]; generalize hitOf (slotOf (keep (F := Ideal) x w) (place (F := Ideal) x w s)) rs (lane0 q) = u; pointwise
  rw [h, hitOf_apply _ _ _ _ _ (fun k => hr k l), lane0_apply, hq]
  exact if_congr (slotOf_apply _ _ _ _ _ n (keep_apply x w r _) hn _ (Nat.mod_lt _ (by norm_num))) rfl rfl

open Classical in
/-- The combine block: the weight there. -/
theorem combBlock_apply (rs : Vec Ideal S64x2560 .f32) (q : Vec Ideal S8x2560 .f32) (s : Vec Ideal S8x64 .f32) (r : Fin 512) (l : Fin 2560)
    (hr : ∀ (k : Fin 64) (l : Fin 2560), rs (ix2 k l) = if k.val = l.val / 40 then 1 else 0)
    (hq : ∀ l : Fin 2560, q (ix2 0 l) = (((l.val % 40 : ℕ) : ℝ) : EReal)) (n : ℕ)
    (hn : place (F := Ideal) x w s (ix2 r ⟨l.val / 40, by omega⟩) = ((n : ℝ) : EReal)) :
    combBlock (F := Ideal) x w rs q s (ix3 0 r l)
      = if Take (rowP x w r) ⟨l.val / 40, by omega⟩ ∧ n = l.val % 40 then wgt (rowP x w r) ⟨l.val / 40, by omega⟩ else 0 := by
  have h : combBlock (F := Ideal) x w rs q s (ix3 0 r l)
      = hitOf (slotOf (keep (F := Ideal) x w) (place (F := Ideal) x w s)) rs (lane0 q) (ix2 r l)
        * ∑ k : Fin 64, weight (F := Ideal) x w (ix2 r k) * rs (ix2 k l) := by
    rw [combBlock_eq]; generalize hitOf (slotOf (keep (F := Ideal) x w) (place (F := Ideal) x w s)) rs (lane0 q) = u
    generalize weight (F := Ideal) x w = v
    pointwise
  rw [h, hitOf_apply _ _ _ _ _ (fun k => hr k l), lane0_apply, hq, Finset.sum_eq_single ⟨l.val / 40, by omega⟩]
  · rw [hr, if_pos rfl, mul_one, weight_apply, ite_mul, one_mul, zero_mul]
    exact if_congr (slotOf_apply _ _ _ _ _ n (keep_apply x w r _) hn _ (Nat.mod_lt _ (by norm_num))) rfl rfl
  · intro k _ hk
    rw [hr, if_neg (fun h => hk (Fin.ext h)), mul_zero]
  · intro h; exact absurd (Finset.mem_univ _) h

/-- The loss block after batch row `b`. -/
theorem auxBlock_apply (b : BitVec 32) (sm sp : Vec Ideal S8x64 .f32) (a : Vec Ideal S8x128 .f32) (i : S8x128.Idx) :
    auxBlock (F := Ideal) b sm sp a i = (if b = 0#32 then 0 else a (ix2 0 0))
      + (∑ e : Fin 64, sm (ix2 0 e) * sp (ix2 0 e)) * ((1 / 131072 : ℝ) : EReal) := by
  have hc : corner (F := Ideal) a (ix2 0 0) = a (ix2 0 0) := by
    show a _ = a _
    congr 1
    funext c
    match c with
    | ⟨0, _⟩ => rfl
    | ⟨1, _⟩ => rfl
  have h : auxBlock (F := Ideal) b sm sp a i = Scalar.select (IntOp.cmpi .eq b 0#32) 0 (corner (F := Ideal) a (ix2 0 0))
      + (∑ e : Fin 64, row0 (F := Ideal) sm (ix2 0 e) * row0 (F := Ideal) sp (ix2 0 e)) * ((1 / 131072 : ℝ) : EReal) := by
    rw [← bits_scale]
    unfold auxBlock
    generalize row0 (F := Ideal) sm = u; generalize row0 (F := Ideal) sp = v; generalize corner (F := Ideal) a = z
    pointwise [k0_pay2]
    simp only [Fin.sum_univ_one, Fin.isValue]
    rfl
  rw [h, hc, WordCmp.cmpi_eq_eq]
  simp only [row0_apply]
  by_cases hb : b = 0#32 <;> simp only [hb, decide_true, decide_false, if_true, if_false] <;> rfl

end Cert.KernelIdeal.Hand

end
-- ==== Proof.Router.Tables.lean ====
module

public import proofs.«01_k».proof.Proof.Router.Run
public import proofs.«01_k».proof.Proof.Router.Outs
public import Idealize.ShloMosaic.Lib.StableHlo.ReadAt

/-! # The lane tables

The two tables that the host prepares: lane `l` belongs to expert `l / 40` and to slot `l % 40`. -/

@[expose] public section

set_option maxRecDepth 16384

noncomputable section

namespace Cert.KernelIdeal.Hand
open Cert.KernelIdeal.Gen Cert.Router
open Idealize.ShloMosaic Idealize.ShloMosaic.TcCoe

/-- Division of a lane number by 40, rounded down, as the host computes it. -/
def floorWord (a b : BitVec 32) : BitVec 32 :=
  Scalar.select
    (IntOp.andi (IntOp.cmpi .ne (if a = 0 then 0 else if a.msb = true then -1 else 1 : BitVec 32) (if b = 0 then 0 else if b.msb = true then -1 else 1))
      (IntOp.cmpi .ne (IntOp.remsi .host a b) 0#32))
    (IntOp.subi (IntOp.divsi .host a b) 1#32) (IntOp.divsi .host a b)

/-- The divisor, 1 where it is zero. -/
def safeWord (b : BitVec 32) : BitVec 32 := Scalar.select (IntOp.cmpi .eq b 0#32) (1#32) b

/-- The remainder with the divisor's sign, as the host computes it. -/
def remWord (a b : BitVec 32) : BitVec 32 :=
  Scalar.select
    (IntOp.andi (IntOp.cmpi .ne (IntOp.cmpi .slt (IntOp.remsi .host a (safeWord b)) 0#32) (IntOp.cmpi .slt (safeWord b) 0#32))
      (IntOp.cmpi .ne (IntOp.remsi .host a (safeWord b)) 0#32))
    (IntOp.addi (IntOp.remsi .host a (safeWord b)) (safeWord b)) (IntOp.remsi .host a (safeWord b))

/-- The words of the lane numbers divided by 40. -/
theorem floorWord_eq : ∀ l : Fin 2560, floorWord (BitVec.ofNat 32 l.val) 40#32 = BitVec.ofNat 32 (l.val / 40) := by decide +kernel
/-- The words of the lane numbers modulo 40. -/
theorem remWord_eq : ∀ l : Fin 2560, remWord (BitVec.ofNat 32 l.val) 40#32 = BitVec.ofNat 32 (l.val % 40) := by decide +kernel

variable (m : (ℓ : Loc nD τ sig) → Buf (Elt Ideal) ℓ) (c : Dev nD)

/-- Lane `l` is expert `l / 40`'s. -/
theorem V_expert (k : Fin 64) (l : Fin 2560) : (V m c main_v8 : Vec Ideal S64x2560 .f32) (ix2 k l) = if k.val = l.val / 40 then (1 : EReal) else 0 := by
  have h : (V m c main_v8 : Vec Ideal S64x2560 .f32) (ix2 k l)
      = FloatOps.uitofp (F := Ideal) .f32 (IntOp.cmpi .eq (floorWord (BitVec.ofNat 32 l.val) 40#32) (BitVec.ofNat 32 k.val)) := by
    unfold V V0
    after_reads_at
    rfl
  rw [h, floorWord_eq, WordCmp.cmpi_eq_ofNat (by omega) (by omega)]
  by_cases hk : k.val = l.val / 40
  · rw [if_pos hk, decide_eq_true hk.symm]
    show (((1 : ℕ) : ℝ) : EReal) = 1
    norm_num
  · rw [if_neg hk, decide_eq_false (fun h => hk h.symm)]
    show (((0 : ℕ) : ℝ) : EReal) = 0
    norm_num

/-- Lane `l` is slot `l % 40`'s. -/
theorem V_slot (l : Fin 2560) : (V m c main_v11 : Vec Ideal S8x2560 .f32) (ix2 0 l) = (((l.val % 40 : ℕ) : ℝ) : EReal) := by
  have h : (V m c main_v11 : Vec Ideal S8x2560 .f32) (ix2 0 l)
      = FloatOps.sitofp (F := Ideal) .f32 (remWord (BitVec.ofNat 32 l.val) 40#32) := by
    unfold V V0
    after_reads_at
    rfl
  rw [h, remWord_eq]
  show ((((BitVec.ofNat 32 (l.val % 40)).toInt : ℤ) : ℝ) : EReal) = _
  rw [WordCmp.toInt_ofNat_of_lt (by omega), Int.cast_natCast]

end Cert.KernelIdeal.Hand

end
-- ==== Proof.Router.Spec.lean ====
module

public import proofs.«01_k».proof.Proof.Router.Row
public import Idealize.ShloMosaic.Lib.Pointwise

/-! # What the router computes

The three results as functions of the tokens and of the gating weights, and sums over the tokens of a batch row. -/

@[expose] public section

noncomputable section

namespace Cert.Router
open Idealize.ShloMosaic

/-- The probabilities of token `t` of batch row `b`. -/
def probs (X : (⟨3, ![2, 2048, 1024]⟩ : Shape).Idx → EReal) (W : (⟨2, ![1024, 64]⟩ : Shape).Idx → EReal) (b : Fin 2) (t : Fin 2048) : Fin 64 → EReal :=
  soft fun e => ∑ d : Fin 1024, X (ix3 b t d) * W (ix2 d e)

open Classical in
/-- The dispatch numbers: 1 where token `t` takes slot `k` of expert `e`. -/
def dispSpec (P : Fin 2 → Fin 2048 → Fin 64 → EReal) (b : Fin 2) (t : Fin 2048) (e : Fin 64) (k : Fin 40) : EReal :=
  if Sent (P b) t e k then 1 else 0

open Classical in
/-- The combine numbers: the weight there. -/
def combSpec (P : Fin 2 → Fin 2048 → Fin 64 → EReal) (b : Fin 2) (t : Fin 2048) (e : Fin 64) (k : Fin 40) : EReal :=
  if Sent (P b) t e k then wgt (P b t) e else 0

/-- One batch row's part of the loss. -/
def lossRow (P : Fin 2048 → Fin 64 → EReal) : EReal :=
  (∑ e : Fin 64, (∑ t, gate (P t) e) * (∑ t, P t e)) * ((1 / 131072 : ℝ) : EReal)

/-- The loss. -/
def lossSpec (P : Fin 2 → Fin 2048 → Fin 64 → EReal) : EReal := lossRow (P 0) + lossRow (P 1)

/-- A token's number, 0 past the last token. -/
def ext (f : Fin 2048 → EReal) (t : ℕ) : EReal := if h : t < 2048 then f ⟨t, h⟩ else 0

/-- The sum over the first `n` tokens. -/
def part (f : Fin 2048 → EReal) (n : ℕ) : EReal := ∑ t ∈ Finset.range n, ext f t

/-- The sum over no tokens. -/
theorem part_zero (f : Fin 2048 → EReal) : part f 0 = 0 := Finset.sum_range_zero _

/-- A token's number. -/
theorem ext_val (f : Fin 2048 → EReal) (t : Fin 2048) : ext f t.val = f t := dif_pos t.isLt

/-- A part of the sum, as a sum over all tokens. -/
theorem part_eq (f : Fin 2048 → EReal) (n : ℕ) (hn : n ≤ 2048) : part f n = ∑ t : Fin 2048, if t.val < n then f t else 0 := by
  have h : (∑ t : Fin 2048, if t.val < n then f t else 0) = ∑ t ∈ Finset.range 2048, if t < n then ext f t else 0 := by
    rw [← Fin.sum_univ_eq_sum_range (fun t => if t < n then ext f t else 0)]
    exact Finset.sum_congr rfl fun t _ => by rw [ext_val]
  rw [h, ← Finset.sum_filter]
  unfold part
  congr 1
  ext t
  simp only [Finset.mem_range, Finset.mem_filter]
  omega

/-- The sum over all tokens. -/
theorem part_all (f : Fin 2048 → EReal) : part f 2048 = ∑ t, f t := by
  rw [part_eq f 2048 le_rfl]
  exact Finset.sum_congr rfl fun t _ => if_pos t.isLt

/-- A block's worth of tokens more. -/
theorem part_block (f : Fin 2048 → EReal) (n : ℕ) (hn : n + 512 ≤ 2048) :
    part f (n + 512) = part f n + ∑ k : Fin 512, f ⟨n + k.val, by omega⟩ := by
  unfold part
  rw [Finset.sum_range_add, Finset.sum_range (fun x => ext f (n + x))]
  congr 1
  exact Finset.sum_congr rfl fun k _ => dif_pos _

/-- A part of a block's tokens more. -/
theorem part_inner (f : Fin 2048 → EReal) (n : ℕ) (hn : n + 512 ≤ 2048) (r : Fin 512) :
    part f (n + r.val) = part f n + ∑ k : Fin 512, if k.val < r.val then f ⟨n + k.val, by omega⟩ else 0 := by
  unfold part
  rw [Finset.sum_range_add]
  congr 1
  have h : (∑ k : Fin 512, if k.val < r.val then f ⟨n + k.val, by omega⟩ else 0) = ∑ k ∈ Finset.range 512, if k < r.val then ext f (n + k) else 0 := by
    rw [← Fin.sum_univ_eq_sum_range (fun k => if k < r.val then ext f (n + k) else 0)]
    exact Finset.sum_congr rfl fun k _ => by rw [show ext f (n + k.val) = f ⟨n + k.val, by omega⟩ from dif_pos _]
  rw [h, ← Finset.sum_filter]
  congr 1
  ext t
  simp only [Finset.mem_range, Finset.mem_filter]
  omega

/-- A queue's length is a sum of gates. -/
theorem part_gate (P : Fin 2048 → Fin 64 → EReal) (n : ℕ) (hn : n ≤ 2048) (e : Fin 64) :
    part (fun t => gate (P t) e) n = ((queue P n e : ℝ) : EReal) := by
  rw [part_eq _ _ hn, queue_eq_sum]

end Cert.Router

end
-- ==== Proof.Router.Chain.lean ====
module

public import proofs.«01_k».proof.Proof.Router.Tables
public import proofs.«01_k».proof.Proof.Router.Spec
public import Idealize.ShloMosaic.Lib.Pipeline.ValueKit

/-! # The carried sums

What the carried arrays hold at every grid point, as sums over the tokens of the batch row so far. -/

@[expose] public section

set_option maxRecDepth 16384

noncomputable section

namespace Cert.KernelIdeal.Hand
open Cert.KernelIdeal.Gen Cert.Router
open Idealize.ShloMosaic Idealize.ShloMosaic.TcCoe

variable (m : (ℓ : Loc nD τ sig) → Buf (Elt Ideal) ℓ) (c : Dev nD)

/-- The tokens and the gating weights as launched. -/
abbrev tokens : Vec Ideal S2x2048x1024 .f32 := m ((c : Thread nD τ).loc main_arg0)
abbrev gating : Vec Ideal S1024x64 .f32 := m ((c : Thread nD τ).loc main_arg1)

/-- Every token's probabilities. -/
def P : Fin 2 → Fin 2048 → Fin 64 → EReal := probs (tokens m c) (gating m c)

/-- The batch row of point `n`, and the token in row `r` of its block. -/
def bat (n : ℕ) : Fin 2 := ⟨n / 4 % 2, by omega⟩
def tok (n : ℕ) (r : Fin 512) : Fin 2048 := ⟨512 * (n % 4) + r.val, by omega⟩

/-- The token block of a grid point. -/
theorem index0 : ∀ t : Fin cfg0.N, win0_0.index t = ![t.val / 4, t.val % 4, 0] := (by decide +kernel : ∀ t : Fin grid0.N, _)
/-- The gating weights are one block. -/
theorem index1 : ∀ t : Fin cfg0.N, win0_1.index t = ![0, 0] := (by decide +kernel : ∀ t : Fin grid0.N, _)
/-- The first table is one block. -/
theorem index2 : ∀ t : Fin cfg0.N, win0_2.index t = ![0, 0] := (by decide +kernel : ∀ t : Fin grid0.N, _)
/-- The second table is one block. -/
theorem index3 : ∀ t : Fin cfg0.N, win0_3.index t = ![0, 0] := (by decide +kernel : ∀ t : Fin grid0.N, _)
/-- The first output block of a grid point. -/
theorem index4 : ∀ t : Fin cfg0.N, win0_4.index t = ![t.val / 4, t.val % 4, 0] := (by decide +kernel : ∀ t : Fin grid0.N, _)
/-- The second output block of a grid point. -/
theorem index5 : ∀ t : Fin cfg0.N, win0_5.index t = ![t.val / 4, t.val % 4, 0] := (by decide +kernel : ∀ t : Fin grid0.N, _)

/-- There are eight grid points. -/
theorem lt8 (t : Fin cfg0.N) : t.val < 8 := lt_of_lt_of_eq t.isLt (show cfg0.N = 8 from N_0)

/-- The tokens of a grid point. -/
theorem xAt_apply (t : Fin cfg0.N) (r : Fin 512) (d : Fin 1024) :
    xAt m c t (ix3 0 r d) = tokens m c (ix3 (bat t.val) (tok t.val r) d) := by
  have ht := lt8 t
  blk_simp [xAt, iblk, index0]
  rw [show V m c (Pipeline.arrRef spec0 0) = tokens m c from V_main_arg0 m c]
  congr 1
  blk_ext [index0, bat, tok]

/-- The gating weights at a grid point. -/
theorem wAt_apply (t : Fin cfg0.N) (d : Fin 1024) (e : Fin 64) : wAt m c t (ix2 d e) = gating m c (ix2 d e) := by
  blk_simp [wAt, iblk, index1]
  rw [show V m c (Pipeline.arrRef spec0 1) = gating m c from V_main_arg1 m c]
  congr 1
  blk_ext [index1]

/-- The first table: lane `l` belongs to expert `l / 40`. -/
theorem rAt_apply (t : Fin cfg0.N) (k : Fin 64) (l : Fin 2560) : rAt m c t (ix2 k l) = if k.val = l.val / 40 then (1 : EReal) else 0 := by
  rw [← V_expert m c]
  blk_simp [rAt, iblk, index2]
  congr 1
  blk_ext [index2]

/-- The second table: lane `l` has the place `l % 40`. -/
theorem qAt_apply (t : Fin cfg0.N) (l : Fin 2560) : qAt m c t (ix2 0 l) = (((l.val % 40 : ℕ) : ℝ) : EReal) := by
  rw [← V_slot m c]
  blk_simp [qAt, iblk, index3]
  congr 1
  blk_ext [index3]

/-- A row of a block is a token. -/
theorem rowP_eq (t : Fin cfg0.N) (r : Fin 512) : rowP (xAt m c t) (wAt m c t) r = P m c (bat t.val) (tok t.val r) := by
  unfold rowP P probs
  congr 1
  funext e
  unfold gatesK
  refine Finset.sum_congr rfl fun d _ => ?_
  rw [xAt_apply, wAt_apply]

/-- The carried arrays hold the sums over the first `k` tokens of batch row `b`. -/
structure Sums (s : Carried Ideal) (b : Fin 2) (k : ℕ) : Prop where
  queue : ∀ (i : Fin 8) (e : Fin 64), s.queue (ix2 i e) = part (fun t => gate (P m c b t) e) k
  mask : ∀ (i : Fin 8) (e : Fin 64), s.mask (ix2 i e) = part (fun t => gate (P m c b t) e) k
  prob : ∀ (i : Fin 8) (e : Fin 64), s.prob (ix2 i e) = part (fun t => P m c b t e) k

/-- Before the first token the sums are zero. -/
theorem sums_reset (b : Fin 2) : Sums m c (reset (F := Ideal)) b 0 := by
  refine ⟨fun i e => ?_, fun i e => ?_, fun i e => ?_⟩ <;> rw [part_zero] <;> unfold reset
  · pointwise [k0_pay3]
  · pointwise [k0_pay4]
  · pointwise [k0_pay5]

/-- A grid point carries the sums on over its tokens. -/
theorem sums_advance (t : Fin cfg0.N) (s : Carried Ideal) (h : Sums m c s (bat t.val) (512 * (t.val % 4))) :
    Sums m c (advance m c t s) (bat t.val) (512 * (t.val % 4 + 1)) := by
  have e : 512 * (t.val % 4 + 1) = 512 * (t.val % 4) + 512 := by omega
  rw [e]
  refine ⟨fun i e => ?_, fun i e => ?_, fun i e => ?_⟩ <;> rw [part_block _ _ (by omega)]
  · show carryNext (F := Ideal) _ _ _ (ix2 i e) = _
    rw [carryNext_apply, h.queue]; simp only [rowP_eq]; rfl
  · show maskNext (F := Ideal) _ _ _ (ix2 i e) = _
    rw [maskNext_apply, h.mask]; simp only [rowP_eq]; rfl
  · show probNext (F := Ideal) _ _ _ (ix2 i e) = _
    rw [probNext_apply, h.prob]; simp only [rowP_eq]; rfl

/-- The sums before and after every grid point. -/
theorem sums_both (n : ℕ) (hn : n < 8) : Sums m c (held m c n) (bat n) (512 * (n % 4)) ∧ Sums m c (after m c n) (bat n) (512 * (n % 4 + 1)) := by
  induction n with
  | zero =>
    have h : Sums m c (held m c 0) (bat 0) (512 * (0 % 4)) := by rw [held_first m c 0 rfl]; exact sums_reset m c _
    refine ⟨h, ?_⟩
    rw [after_eq]
    exact sums_advance m c (pt 0) _ h
  | succ n ih =>
    have hv : (pt (n + 1)).val = n + 1 := Nat.mod_eq_of_lt hn
    have h : Sums m c (held m c (n + 1)) (bat (n + 1)) (512 * ((n + 1) % 4)) := by
      by_cases h0 : (n + 1) % 4 = 0
      · rw [held_first m c _ h0, h0]; exact sums_reset m c _
      · rw [held_inner m c _ h0]
        have := (ih (by omega)).2
        rwa [show bat (n + 1) = bat n from Fin.ext (show (n + 1) / 4 % 2 = n / 4 % 2 by omega), show (n + 1) % 4 = n % 4 + 1 by omega]
    refine ⟨h, ?_⟩
    rw [after_eq]
    have := sums_advance m c (pt (n + 1)) (held m c (n + 1)) (by rw [hv]; exact h)
    rwa [hv] at this

/-- A token's place in an expert's queue. -/
theorem place_val (t : Fin cfg0.N) (r : Fin 512) (e : Fin 64) :
    place (F := Ideal) (xAt m c t) (wAt m c t) (held m c t.val).queue (ix2 r e) = ((queue (P m c (bat t.val)) (tok t.val r).val e : ℝ) : EReal) := by
  rw [place_apply, (sums_both m c t.val (lt8 t)).1.queue, ← part_gate _ _ (tok t.val r).isLt.le]
  show _ = part _ (512 * (t.val % 4) + r.val)
  rw [part_inner _ _ (by omega), add_comm]
  simp only [rowP_eq]
  rfl

/-- The dispatch block at a point. -/
theorem disp_at (t : Fin cfg0.N) (r : Fin 512) (l : Fin 2560) :
    dispBlock (F := Ideal) (xAt m c t) (wAt m c t) (rAt m c t) (qAt m c t) (held m c t.val).queue (ix3 0 r l)
      = dispSpec (P m c) (bat t.val) (tok t.val r) ⟨l.val / 40, by omega⟩ ⟨l.val % 40, by omega⟩ := by
  rw [dispBlock_apply _ _ _ _ _ _ _ (rAt_apply m c t) (qAt_apply m c t) _ (place_val m c t r _), rowP_eq]
  unfold dispSpec Sent
  congr

/-- The combine block at a point. -/
theorem comb_at (t : Fin cfg0.N) (r : Fin 512) (l : Fin 2560) :
    combBlock (F := Ideal) (xAt m c t) (wAt m c t) (rAt m c t) (qAt m c t) (held m c t.val).queue (ix3 0 r l)
      = combSpec (P m c) (bat t.val) (tok t.val r) ⟨l.val / 40, by omega⟩ ⟨l.val % 40, by omega⟩ := by
  rw [combBlock_apply _ _ _ _ _ _ _ (rAt_apply m c t) (qAt_apply m c t) _ (place_val m c t r _), rowP_eq]
  unfold combSpec Sent
  congr

/-- The batch row of a grid point. -/
theorem coords0 : ∀ t : Fin cfg0.N, (grid0.coords t 0).val = t.val / 4 := (by decide +kernel : ∀ t : Fin grid0.N, _)

/-- A batch row's part of the loss, as the kernel computes it. -/
theorem row_loss (t : Fin cfg0.N) (h : t.val % 4 = 3) :
    (∑ e : Fin 64, (after m c t.val).mask (ix2 0 e) * (after m c t.val).prob (ix2 0 e)) * ((1 / 131072 : ℝ) : EReal) = lossRow (P m c (bat t.val)) := by
  unfold lossRow
  congr 1
  refine Finset.sum_congr rfl fun e _ => ?_
  rw [(sums_both m c t.val (lt8 t)).2.mask, (sums_both m c t.val (lt8 t)).2.prob, h, part_all, part_all]

/-- The loss block after the last point. -/
theorem loss_final (i : S8x128.Idx) : loss m c 7 i = lossSpec (P m c) := by
  have e7 : (pt 7).val = 7 := rfl
  have e3 : (pt 3).val = 3 := rfl
  have h7 : loss m c 7 = auxBlock 1#32 (after m c 7).mask (after m c 7).prob (loss m c 6) := by
    have := loss_last m c (pt 7) (by rw [e7])
    rw [coords0, e7] at this
    exact this
  have h3 : loss m c 3 = auxBlock 0#32 (after m c 3).mask (after m c 3).prob (loss m c 2) := by
    have := loss_last m c (pt 3) (by rw [e3])
    rw [coords0, e3] at this
    exact this
  have h6 : loss m c 6 = loss m c 3 := by
    rw [loss_other m c 6 (by decide) (by decide), loss_other m c 5 (by decide) (by decide), loss_other m c 4 (by decide) (by decide)]
  have r7 := row_loss m c (pt 7) rfl
  have r3 := row_loss m c (pt 3) rfl
  rw [e7] at r7
  rw [e3] at r3
  rw [h7, auxBlock_apply, r7, h6, h3, auxBlock_apply, r3, if_neg (by decide), if_pos rfl, zero_add]
  rfl

end Cert.KernelIdeal.Hand

end
-- ==== Proof.Router.Arrays.lean ====
module

public import proofs.«01_k».proof.Proof.Router.Chain

/-! # The output arrays

What the three output arrays hold after the last grid point. -/

@[expose] public section

set_option maxRecDepth 16384

noncomputable section

namespace Cert.KernelIdeal.Hand
open Cert.KernelIdeal.Gen Cert.Router
open Idealize.ShloMosaic Idealize.ShloMosaic.TcCoe

variable (m : (ℓ : Loc nD τ sig) → Buf (Elt Ideal) ℓ) (c : Dev nD)

/-- The dispatch array as the region leaves it: expert and slot side by side in one axis. -/
def dispWide : Vec Ideal S2x2048x2560 .f32 := fun i => dispSpec (P m c) (i 0) (i 1)
  ⟨(i 2).val / 40, by have : (i 2).val < 2560 := (i 2).isLt; omega⟩ ⟨(i 2).val % 40, by omega⟩

/-- The combine array as the region leaves it. -/
def combWide : Vec Ideal S2x2048x2560 .f32 := fun i => combSpec (P m c) (i 0) (i 1)
  ⟨(i 2).val / 40, by have : (i 2).val < 2560 := (i 2).isLt; omega⟩ ⟨(i 2).val % 40, by omega⟩

/-- An index of a block has first coordinate zero. -/
theorem ix3_of (i : S1x512x2560.Idx) : i = ix3 0 (i 1) (i 2) := by
  funext a
  match a with
  | ⟨0, _⟩ => exact Fin.ext (show (i 0).val = 0 by have : (i 0).val < 1 := (i 0).isLt; omega)
  | ⟨1, _⟩ => rfl
  | ⟨2, _⟩ => rfl

/-- A block of the first output holds the dispatch mask of its tokens. -/
theorem disp_block (t : Fin cfg0.N) (y : S1x512x2560.Idx) (j : S2x2048x2560.Idx)
    (h0 : (j 0).val = t.val / 4) (h1 : (j 1).val = 512 * (t.val % 4) + (y 1).val) (h2 : (j 2).val = (y 2).val) :
    dispBlock (F := Ideal) (xAt m c t) (wAt m c t) (rAt m c t) (qAt m c t) (held m c t.val).queue y = dispWide m c j := by
  have ht := lt8 t
  have e0 : j 0 = bat t.val := Fin.ext (show (j 0).val = t.val / 4 % 2 by omega)
  have e1 : j 1 = tok t.val (y 1) := Fin.ext h1
  have e2 : j 2 = y 2 := Fin.ext h2
  rw [ix3_of y]
  refine (disp_at m c t (y 1) (y 2)).trans ?_
  unfold dispWide
  rw [e0, e1]
  congr 1
  · exact Fin.ext (by show (y 2).val / 40 = (j 2).val / 40; rw [e2])
  · exact Fin.ext (by show (y 2).val % 40 = (j 2).val % 40; rw [e2])

/-- A block of the second output holds the weights of its tokens. -/
theorem comb_block (t : Fin cfg0.N) (y : S1x512x2560.Idx) (j : S2x2048x2560.Idx)
    (h0 : (j 0).val = t.val / 4) (h1 : (j 1).val = 512 * (t.val % 4) + (y 1).val) (h2 : (j 2).val = (y 2).val) :
    combBlock (F := Ideal) (xAt m c t) (wAt m c t) (rAt m c t) (qAt m c t) (held m c t.val).queue y = combWide m c j := by
  have ht := lt8 t
  have e0 : j 0 = bat t.val := Fin.ext (show (j 0).val = t.val / 4 % 2 by omega)
  have e1 : j 1 = tok t.val (y 1) := Fin.ext h1
  have e2 : j 2 = y 2 := Fin.ext h2
  rw [ix3_of y]
  refine (comb_at m c t (y 1) (y 2)).trans ?_
  unfold combWide
  rw [e0, e1]
  congr 1
  · exact Fin.ext (by show (y 2).val / 40 = (j 2).val / 40; rw [e2])
  · exact Fin.ext (by show (y 2).val % 40 = (j 2).val % 40; rw [e2])

/-- The blocks of the first output cover its array. -/
theorem covers4 : (cfg0.win 4).Covers := by decide +kernel
/-- The blocks of the second output cover its array. -/
theorem covers5 : (cfg0.win 5).Covers := by decide +kernel
/-- The one block of the third output is its whole array. -/
theorem whole6 : (cfg0.win 6).WholeAt (pt 7) := by decide +kernel

/-- The first output array after the run. -/
theorem arr4 : (dats m 0 c).arrAt 4 cfg0.N = dispWide m c := by
  refine (dats m 0 c).arrAt_eq_of_covers 4 _ covers4 fun t hf y => ?_
  have : (y 0).val < 1 := (y 0).isLt
  refine (congrFun (left4 m c t) y).trans (disp_block m c t y _ ?_ ?_ ?_) <;> blk_simp [index4]
  omega

/-- The second output array after the run. -/
theorem arr5 : (dats m 0 c).arrAt 5 cfg0.N = combWide m c := by
  refine (dats m 0 c).arrAt_eq_of_covers 5 _ covers5 fun t hf y => ?_
  have : (y 0).val < 1 := (y 0).isLt
  refine (congrFun (left5 m c t) y).trans (comb_block m c t y _ ?_ ?_ ?_) <;> blk_simp [index5]
  omega

/-- The block of the third output after the last grid point. -/
theorem after6 : (dats m 0 c).after 6 (pt 7) = (fun _ => lossSpec (P m c) : Vec Ideal S8x128 .f32) := by
  rw [left6]
  exact funext (loss_final m c)

/-- The third output array after the run. -/
theorem arr6 : (dats m 0 c).arrAt 6 cfg0.N = (fun _ => lossSpec (P m c) : Vec Ideal S8x128 .f32) := by
  refine (dats m 0 c).arrAt_eq_of_after_last 6 (pt 7) whole6 _ fun j => ?_
  rw [after6]
  rfl

end Cert.KernelIdeal.Hand

end
-- ==== Proof.Router.Final.lean ====
module

public import proofs.«01_k».proof.Proof.Router.Arrays
public import Idealize.ShloMosaic.Lib.Claim

/-! # The kernel's results

What the three results hold after the whole program's run. -/

@[expose] public section

set_option maxRecDepth 16384

noncomputable section

namespace Cert.KernelIdeal.Hand
open Cert.KernelIdeal.Gen Cert.Router
open Idealize.ShloMosaic Idealize.ShloMosaic.TcCoe

variable (m : (ℓ : Loc nD τ sig) → Buf (Elt Ideal) ℓ) (c : Dev nD)

/-- The three results. -/
def dispOut : Vec Ideal S2x2048x64x40 .f32 := fun i => dispSpec (P m c) (i 0) (i 1) (i 2) (i 3)
def combOut : Vec Ideal S2x2048x64x40 .f32 := fun i => combSpec (P m c) (i 0) (i 1) (i 2) (i 3)
def lossOut : Vec Ideal S_ .f32 := fun _ => lossSpec (P m c)

/-- The last axis of the wide arrays splits into experts and places. -/
theorem narrow (G : Fin 2 → Fin 2048 → Fin 64 → Fin 40 → EReal) :
    shapeCast S2x2048x64x40 (fun i : S2x2048x2560.Idx => G (i 0) (i 1) ⟨(i 2).val / 40, by have : (i 2).val < 2560 := (i 2).isLt; omega⟩ ⟨(i 2).val % 40, by omega⟩)
      shapeCasts_S2x2048x2560_S2x2048x64x40 = fun i => G (i 0) (i 1) (i 2) (i 3) := by
  funext i
  rw [eq_ix4 i]
  have h3 : (i 3).val < 40 := (i 3).isLt
  pointwise
  congr 1
  · exact Fin.ext (show ((i 2).val * 40 + (i 3).val) / 40 = (i 2).val by omega)
  · exact Fin.ext (show ((i 2).val * 40 + (i 3).val) % 40 = (i 3).val by omega)

/-- The region's output arrays as the host operations after it find them. -/
theorem read4 : Pipeline.withArrays (cfgs 0).spec c (V0 m c) (fun w => (dats m 0 c).arrAt w (cfgs 0).N) (Proc.tc.devRef main_v12_0) = dispWide m c :=
  (Pipeline.withArrays_arr spec0 (by decide) c (V0 m c) (fun w => (dats m 0 c).arrAt w (cfgs 0).N) 4).trans (arr4 m c)

/-- The second output array after the region. -/
theorem read5 : Pipeline.withArrays (cfgs 0).spec c (V0 m c) (fun w => (dats m 0 c).arrAt w (cfgs 0).N) (Proc.tc.devRef main_v12_1) = combWide m c :=
  (Pipeline.withArrays_arr spec0 (by decide) c (V0 m c) (fun w => (dats m 0 c).arrAt w (cfgs 0).N) 5).trans (arr5 m c)

/-- The third output array after the region. -/
theorem read6 : Pipeline.withArrays (cfgs 0).spec c (V0 m c) (fun w => (dats m 0 c).arrAt w (cfgs 0).N) (Proc.tc.devRef main_v12_2)
    = (fun _ => lossSpec (P m c) : Vec Ideal S8x128 .f32) :=
  (Pipeline.withArrays_arr spec0 (by decide) c (V0 m c) (fun w => (dats m 0 c).arrAt w (cfgs 0).N) 6).trans (arr6 m c)

/-- The first result. -/
theorem tail13 : Pipeline.afterTail₀ cfgs (dats m) 0 (V0 m) [hostOps1] c main_v13 = dispOut m c := by
  unfold Pipeline.afterTail₀
  after_reads_simp
  rw [read4]
  exact narrow (dispSpec (P m c))

/-- The second result. -/
theorem tail14 : Pipeline.afterTail₀ cfgs (dats m) 0 (V0 m) [hostOps1] c main_v14 = combOut m c := by
  unfold Pipeline.afterTail₀
  after_reads_simp
  rw [read5]
  exact narrow (combSpec (P m c))

/-- The third result. -/
theorem tail17 : Pipeline.afterTail₀ cfgs (dats m) 0 (V0 m) [hostOps1] c main_v17 = lossOut m c := by
  unfold Pipeline.afterTail₀
  after_reads_simp
  rw [read6]
  rfl

/-- The kernel's run: the three results hold what the router computes, and the arguments end as they were. -/
theorem results (ρ : Dev nD → PrngReg) : θ_run defs (onTc (τ := τ) (main (F := Ideal))) ⟨m, fun _ => 0, ρ⟩ (fun r => ∀ c : Dev nD,
      r.2.mem ((c.tc : Thread nD τ).loc main_v13) = dispOut m c
      ∧ r.2.mem ((c.tc : Thread nD τ).loc main_v14) = combOut m c
      ∧ r.2.mem ((c.tc : Thread nD τ).loc main_v17) = lossOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨
    ((h.1.1 c).2 main_v13 (by decide)).trans (tail13 m c), ((h.1.1 c).2 main_v14 (by decide)).trans (tail14 m c),
    ((h.1.1 c).2 main_v17 (by decide)).trans (tail17 m c), (h.2.1 c).1, (h.2.1 c).2⟩)
    (θ_run_and (run m ρ) (unchanged m ρ))

end Cert.KernelIdeal.Hand

end
-- ==== Proof.Reference.Probs.lean ====
module

public import proofs.«01_k».proof.Proof.Gen.ReferenceIdeal.Run
public import proofs.«01_k».proof.Proof.Router.Spec
public import Idealize.ShloMosaic.Lib.IdealHost

/-! # The reference's probabilities -/

@[expose] public section

set_option maxRecDepth 16384

noncomputable section

namespace Cert.ReferenceIdeal.Hand
open Cert.ReferenceIdeal Cert.ReferenceIdeal.Gen Cert.ReferenceIdeal.Value Cert.Router
open Idealize.ShloMosaic Idealize.ShloMosaic.TcCoe

variable (V : Valuation τ sig (Elt Ideal))

/-- The tokens, the gating weights, and every token's probabilities. -/
abbrev tokens : S2x2048x1024.Idx → EReal := V (Proc.devRef .tc main_arg0)
abbrev gating : S1024x64.Idx → EReal := V (Proc.devRef .tc main_arg1)
def P : Fin 2 → Fin 2048 → Fin 64 → EReal := probs (tokens V) (gating V)

/-- A token's gating logits. -/
def gates (b : Fin 2) (t : Fin 2048) (e : Fin 64) : EReal := ∑ d : Fin 1024, tokens V (ix3 b t d) * gating V (ix2 d e)

/-- The gating logits. -/
theorem v0_apply (b : Fin 2) (t : Fin 2048) (e : Fin 64) : (res_main_v0 V : S2x2048x64.Idx → EReal) (ix3 b t e) = gates V b t e := by
  unfold res_main_v0 gates tokens gating
  generalize V (Proc.devRef .tc main_arg0) = X
  generalize V (Proc.devRef .tc main_arg1) = W
  pointwise

/-- The exponentials from the logits. -/
def expOf (u : FVec Ideal S2x2048x64 .f32) : FVec Ideal S2x2048x64 .f32 :=
  Host.exp (subf u (broadcastInDim S2x2048x64 ![0, 1, 2] bcast_S2x2048x1_S2x2048x64_0_1_2 (broadcastInDim S2x2048x1 ![0, 1] bcast_S2x2048_S2x2048x1_0_1
    (maximumf (broadcastInDim S2x2048 ![] bcast_S_S2x2048 (constant S_ .f32 0xFF800000#32))
      (Host.reduce FloatOps.maximumf u (constant S_ .f32 0xFF800000#32) reducesTo_S2x2048x64_S2x2048_d2 h_S_)))))

/-- The exponential of a row's difference to its greatest element. -/
theorem expOf_apply (u : FVec Ideal S2x2048x64 .f32) (b : Fin 2) (t : Fin 2048) (e : Fin 64) :
    expOf u (ix3 b t e) = Ideal.exp (u (ix3 b t e) - top fun e => u (ix3 b t e)) := by
  pointwise [expOf]
  rw [bits_neg_inf, max_eq_right bot_le]
  rfl

/-- The exponentials. -/
theorem v7_apply (b : Fin 2) (t : Fin 2048) (e : Fin 64) : (res_main_v7 V : S2x2048x64.Idx → EReal) (ix3 b t e) = Ideal.exp (gates V b t e - top (gates V b t)) := by
  refine (expOf_apply (res_main_v0 V) b t e).trans ?_
  simp only [v0_apply]

/-- The probabilities. -/
theorem v11_apply (b : Fin 2) (t : Fin 2048) (e : Fin 64) : (res_main_v11 V : S2x2048x64.Idx → EReal) (ix3 b t e) = P V b t e := by
  unfold res_main_v11
  have h := v7_apply V
  generalize res_main_v7 V = u at *
  pointwise
  simp only [h]
  rfl

/-- The probabilities with their signs changed: the keys of the sort. -/
theorem v12_apply (b : Fin 2) (t : Fin 2048) (e : Fin 64) : (res_main_v12 V : S2x2048x64.Idx → EReal) (ix3 b t e) = -P V b t e := by
  unfold res_main_v12
  have h := v11_apply V
  generalize res_main_v11 V = u at *
  pointwise
  rw [h]

end Cert.ReferenceIdeal.Hand

end
-- ==== Proof.Reference.Order.lean ====
module

public import proofs.«01_k».proof.Proof.Reference.Probs
public import Idealize.ShloMosaic.Lib.SortPrefix
public import Idealize.ShloMosaic.Lib.WordCmp

/-! # The reference's order of the experts

The stable sort puts the experts in the descending order that the places count. -/

@[expose] public section

set_option maxRecDepth 16384

noncomputable section

namespace Cert.Router
open Idealize.ShloMosaic

/-- The order as a test. -/
def beforeB (p : Fin 64 → EReal) (e' e : Fin 64) : Bool := open Classical in decide (Before p e' e)

/-- The test of the order says when one expert comes before another. -/
theorem beforeB_iff (p : Fin 64 → EReal) (a b : Fin 64) : beforeB p a b = true ↔ Before p a b := by
  unfold beforeB; exact @decide_eq_true_iff _ (_)

/-- The test of the order fails exactly when the expert does not come before. -/
theorem beforeB_false (p : Fin 64 → EReal) (a b : Fin 64) : beforeB p a b = false ↔ ¬Before p a b := by
  rw [← beforeB_iff, Bool.not_eq_true]

/-- The order of the experts is a strict total order. -/
theorem beforeB_total (p : Fin 64 → EReal) : StrictTotalBefore (beforeB p) where
  irrefl a := (beforeB_false p a a).mpr (before_irrefl p a)
  trans a b c h₁ h₂ := (beforeB_iff p a c).mpr (before_trans p ((beforeB_iff p a b).mp h₁) ((beforeB_iff p b c).mp h₂))
  total a b h := (before_total p h).imp (beforeB_iff p a b).mpr (beforeB_iff p b a).mpr

/-- Places in the order are experts in the order. -/
theorem not_before_of_place (p : Fin 64 → EReal) {i j : Fin 64} (h : i < j) : beforeB p (atPlace p j) (atPlace p i) = false := by
  refine (beforeB_false p _ _).mpr fun hb => ?_
  have := rank_lt_of_before p hb
  rw [rank_atPlace, rank_atPlace] at this
  exact absurd (Fin.lt_def.mp h) (by omega)

/-- Sorting by that order puts each expert at its rank. -/
theorem sortedFrom_before (p : Fin 64 → EReal) (s : Fin 64) : sortedFrom (beforeB p) s = atPlace p s :=
  (beforeB_total p).sortedFrom_eq_of_prefix le_rfl (atPlace p) (rankEquiv p).symm.injective (fun _ _ h => not_before_of_place p h)
    (fun _ q h => absurd (atPlace_rank p q) (h _)) s

/-- A stable sort by the keys alone, of an ascending list, is the sort by key and then by number. -/
theorem stableSort_keys (p : Fin 64 → EReal) (R : Fin 64 → Fin 64 → Bool) (hR : ∀ a b, R a b = true ↔ p b < p a) (l : List (Fin 64))
    (hl : l.Pairwise (· < ·)) : stableSort R l = stableSort (beforeB p) l := by
  induction l with
  | nil => rfl
  | cons a l ih =>
    rw [List.pairwise_cons] at hl
    unfold stableSort
    rw [ih hl.2]
    refine insertBefore_congr R (beforeB p) a _ fun b hb => ?_
    have hab : a < b := hl.1 b ((perm_stableSort (beforeB p) l).mem_iff.mp hb)
    rw [Bool.eq_iff_iff, hR, beforeB_iff]
    exact ⟨fun h => .inl h, fun h => h.elim id fun h => absurd (h.2.trans hab) (lt_irrefl _)⟩

/-- The stable sort by descending probability puts each expert at its rank. -/
theorem sortedFrom_keys (p : Fin 64 → EReal) (R : Fin 64 → Fin 64 → Bool) (hR : ∀ a b, R a b = true ↔ p b < p a) (s : Fin 64) :
    sortedFrom R s = atPlace p s := by
  rw [← sortedFrom_before p s]
  have h : sortPositions 64 R = sortPositions 64 (beforeB p) := stableSort_keys p R hR _ (List.pairwise_lt_finRange 64)
  have hg : ∀ (l l' : List (Fin 64)) (_ : l = l') (i : ℕ) (hi : i < l.length) (hi' : i < l'.length), l.get ⟨i, hi⟩ = l'.get ⟨i, hi'⟩ := by
    rintro l _ rfl i hi hi'; rfl
  exact hg _ _ h _ _ _

end Cert.Router

namespace Cert.ReferenceIdeal.Hand
open Cert.ReferenceIdeal Cert.ReferenceIdeal.Gen Cert.ReferenceIdeal.Value Cert.Router
open Idealize.ShloMosaic Idealize.ShloMosaic.TcCoe

variable (V : Valuation τ sig (Elt Ideal))

/-- The comparator's key of a number: the number. -/
theorem key_eq (x : EReal) : Scalar.select (FloatOps.cmpf (F := Ideal) (φ := .f32) .une x x) (FloatOps.ofBits (F := Ideal) .f32 0x7FC00000#32)
    (Scalar.select (FloatOps.cmpf (F := Ideal) (φ := .f32) .oeq x (FloatOps.ofBits (F := Ideal) .f32 0x00000000#32)) (FloatOps.ofBits (F := Ideal) .f32 0x00000000#32) x) = x := by
  have h0 : FloatOps.ofBits (F := Ideal) .f32 0x00000000#32 = (0 : EReal) := bits_zero
  have h1 : FloatOps.cmpf (F := Ideal) (φ := .f32) .une x x = 0#1 := by
    show BitVec.ofBool (decide (x ≠ x)) = 0#1
    simp
  have h2 : FloatOps.cmpf (F := Ideal) (φ := .f32) .oeq x (FloatOps.ofBits (F := Ideal) .f32 0x00000000#32) = BitVec.ofBool (decide (x = 0)) := by
    rw [h0]; rfl
  rw [h1, h2]
  show Scalar.select _ _ x = x
  by_cases h : x = 0
  · rw [h0, h]; simp [Scalar.select]
  · simp [h, Scalar.select]

/-- The comparator compares the keys alone. -/
theorem before_iff (l r : EReal × BitVec 32) : (comparator_f32_i32_d2 (F := Ideal) l r == 1#1) = true ↔ l.1 < r.1 := by
  have h : comparator_f32_i32_d2 (F := Ideal) l r = BitVec.ofBool (decide (l.1 < r.1)) := by
    unfold comparator_f32_i32_d2
    dsimp only
    rw [key_eq, key_eq]
    rfl
  rw [h]
  by_cases hh : l.1 < r.1 <;> simp [hh]

/-- Moving along the last axis changes the last coordinate. -/
theorem along2 (b : Fin 2) (t : Fin 2048) (s k : Fin 64) : ((ix3 b t s : S2x2048x64.Idx)).along 2 k = ix3 b t k := by
  funext a
  match a with
  | ⟨0, _⟩ => rfl
  | ⟨1, _⟩ => rfl
  | ⟨2, _⟩ => rfl

/-- A sort that carries the positions along the last axis gives the position that the sorted order puts there. -/
theorem sort_apply (cmp : EReal × BitVec 32 → EReal × BitVec 32 → BitVec 1) (u : S2x2048x64.Idx → EReal) (b : Fin 2) (t : Fin 2048) (s : Fin 64) :
    (Host.sort2 S2x2048x64 2 cmp u (iotaInDim S2x2048x64 32 2)).2 (ix3 b t s)
      = BitVec.ofNat 32 (sortedFrom (fun k k' : Fin 64 => cmp (u (ix3 b t k), BitVec.ofNat 32 k.val) (u (ix3 b t k'), BitVec.ofNat 32 k'.val) == 1#1) s).val := by
  have hf : (fun k k' : Fin 64 => cmp (u (((ix3 b t s : S2x2048x64.Idx)).along 2 k), iotaInDim S2x2048x64 32 2 (((ix3 b t s : S2x2048x64.Idx)).along 2 k))
        (u (((ix3 b t s : S2x2048x64.Idx)).along 2 k'), iotaInDim S2x2048x64 32 2 (((ix3 b t s : S2x2048x64.Idx)).along 2 k')) == 1#1)
      = fun k k' : Fin 64 => cmp (u (ix3 b t k), BitVec.ofNat 32 k.val) (u (ix3 b t k'), BitVec.ofNat 32 k'.val) == 1#1 := by
    funext k k'
    rw [along2 b t s k, along2 b t s k']
    rfl
  unfold Host.sort2
  rw [dif_pos (by decide)]
  refine (congrArg (fun f : Fin 64 → Fin 64 → Bool => iotaInDim S2x2048x64 32 2 (((ix3 b t s : S2x2048x64.Idx)).along 2 (sortedFrom f s))) hf).trans ?_
  exact (congrArg (iotaInDim S2x2048x64 32 2) (along2 b t s (sortedFrom _ s))).trans rfl

/-- The order that the reference's comparator gives on negated numbers: those of `p`, largest first, equal ones by position. -/
theorem sort_neg (u : FVec Ideal S2x2048x64 .f32) (b : Fin 2) (t : Fin 2048) (s : Fin 64) (p : Fin 64 → EReal)
    (hu : ∀ e : Fin 64, u (ix3 b t e) = -p e) :
    (Host.sort2 S2x2048x64 2 (comparator_f32_i32_d2 (F := Ideal)) u (iotaInDim S2x2048x64 32 2)).2 (ix3 b t s) = BitVec.ofNat 32 (atPlace p s).val := by
  rw [sort_apply]
  rw [sortedFrom_keys p]
  intro k k'
  rw [before_iff]
  simp only [hu]
  exact EReal.neg_lt_neg_iff

/-- The expert in place `s`. -/
theorem v13_apply (b : Fin 2) (t : Fin 2048) (s : Fin 64) :
    (res_main_v13 V : S2x2048x64.Idx → BitVec 32) (ix3 b t s) = BitVec.ofNat 32 (atPlace (P V b t) s).val := by
  unfold res_main_v13 res_main_call0_v0
  exact sort_neg (res_main_v12 V) b t s (P V b t) fun e => v12_apply V b t e

end Cert.ReferenceIdeal.Hand

end
-- ==== Proof.Reference.Ops.lean ====
module

public import proofs.«01_k».proof.Proof.Gen.ReferenceIdeal.Run
public import proofs.«01_k».proof.Proof.Router.Row
public import Idealize.ShloMosaic.Lib.Routing.OpsSet
public import Idealize.ShloMosaic.Lib.Routing.OpsPair
public import Idealize.ShloMosaic.Lib.Pointwise.Index
public import Idealize.ShloMosaic.Lib.IdealHost

/-! # The reference's running sums, reads and writes at an index

The running sum along the last axis, the read of one number per place, the write of slot 0, and the writes at three and at
four index words. -/

@[expose] public section

set_option maxRecDepth 16384

noncomputable section

namespace Cert.ReferenceIdeal.Hand
open Cert.ReferenceIdeal Cert.ReferenceIdeal.Gen Cert.ReferenceIdeal.Value Cert.Router
open Idealize.ShloMosaic Idealize.ShloMosaic.TcCoe Idealize.ShloMosaic.Routing

/-! ## The running sum -/

/-- Adding a list's terms one by one onto `v` gives `v` plus their sum. -/
theorem foldl_add {n : ℕ} (g : Fin n → EReal) (v : EReal) : (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, ← List.ofFn_eq_map, List.sum_ofFn]

/-- A window that ends at `j` covers the places up to `j`. -/
theorem window_prefix {N M : ℕ} (hN : M + 1 = N) (f : Fin N → EReal) (j : Fin N) :
    (∑ n : Fin N, if h : M ≤ j.val + n.val ∧ j.val + n.val - M < N then f ⟨j.val + n.val - M, h.2⟩ else 0) = ∑ i : Fin N, if i ≤ j then f i else 0 := by
  have e : ∀ n : Fin N, (if h : M ≤ j.val + n.val ∧ j.val + n.val - M < N then f ⟨j.val + n.val - M, h.2⟩ else 0)
      = if M ≤ j.val + n.val then f ⟨(j.val + n.val - M) % N, Nat.mod_lt _ (by omega)⟩ else 0 := by
    intro n
    by_cases h : M ≤ j.val + n.val
    · have h2 : j.val + n.val - M < N := by omega
      rw [dif_pos ⟨h, h2⟩, if_pos h]
      exact congrArg f (Fin.ext (Nat.mod_eq_of_lt h2).symm)
    · rw [dif_neg fun q => h q.1, if_neg h]
  rw [Finset.sum_congr rfl fun n _ => e n, ← Finset.sum_filter, ← Finset.sum_filter]
  refine Finset.sum_bij' (fun n _ => ⟨(j.val + n.val - M) % N, Nat.mod_lt _ (by omega)⟩) (fun i _ => ⟨(i.val + M - j.val) % N, Nat.mod_lt _ (by omega)⟩)
    ?_ ?_ ?_ ?_ ?_
  · intro n hn
    rw [Finset.mem_filter] at hn ⊢
    have h2 : j.val + n.val - M < N := by omega
    refine ⟨Finset.mem_univ _, ?_⟩
    show (j.val + n.val - M) % N ≤ j.val
    rw [Nat.mod_eq_of_lt h2]; omega
  · intro i hi
    rw [Finset.mem_filter] at hi ⊢
    have hij : i.val ≤ j.val := hi.2
    refine ⟨Finset.mem_univ _, ?_⟩
    show M ≤ j.val + (i.val + M - j.val) % N
    rw [Nat.mod_eq_of_lt (by omega)]; omega
  · intro n hn
    have hm := (Finset.mem_filter.mp hn).2
    refine Fin.ext ?_
    show ((j.val + n.val - M) % N + M - j.val) % N = n.val
    rw [Nat.mod_eq_of_lt (by omega : j.val + n.val - M < N), Nat.mod_eq_of_lt (by omega)]; omega
  · intro i hi
    have hij : i.val ≤ j.val := (Finset.mem_filter.mp hi).2
    refine Fin.ext ?_
    show (j.val + (i.val + M - j.val) % N - M) % N = i.val
    rw [Nat.mod_eq_of_lt (by omega : i.val + M - j.val < N), Nat.mod_eq_of_lt (by omega)]; omega
  · intro n hn; rfl

/-- The extent of a window along the last axis. -/
theorem numel_lane (N : ℕ) : (⟨3, ![1, 1, N]⟩ : Shape).numel = N := by
  show ∏ a, (![1, 1, N] : Fin 3 → ℕ) a = N
  rw [Fin.prod_univ_three]; simp

/-- The coordinates of a window's place. -/
theorem symm_lane {N : ℕ} (n : Fin (⟨3, ![1, 1, N]⟩ : Shape).numel) :
    (⟨3, ![1, 1, N]⟩ : Shape).rowMajor.symm n = ix3 (0 : Fin 1) (0 : Fin 1) (n.cast (numel_lane N)) :=
  ((⟨3, ![1, 1, N]⟩ : Shape).rowMajor.symm_apply_eq).2 (Fin.ext (by
    rw [Shape.rowMajor_val_three]
    show n.val = (0 * 1 + 0) * N + n.val
    omega))

/-- The running sum along the last axis of a three-axis array. -/
theorem cumsum_last {A B N M : ℕ} (hN : M + 1 = N) (x : (⟨3, ![A, B, N]⟩ : Shape).Idx → EReal) (v : EReal) (hv : v = 0)
    (h : (⟨3, ![A, B, N]⟩ : Shape).ReduceWindows ![1, 1, N] ![1, 1, 1] ![0, 0, M] ![0, 0, 0] ⟨3, ![A, B, N]⟩) (a : Fin A) (b : Fin B) (j : Fin N) :
    Ideal.hostReduceWindowAdd ![1, 1, N] ![1, 1, 1] ![0, 0, M] ![0, 0, 0] h x v (ix3 a b j) = ∑ i : Fin N, if i ≤ j then x (ix3 a b i) else 0 := by
  subst hv
  unfold Ideal.hostReduceWindowAdd Host.reduceWindow
  dsimp only
  rw [foldl_add, zero_add, ← window_prefix hN (fun i => x (ix3 a b i)) j]
  refine Fintype.sum_equiv (finCongr (numel_lane N)) _ _ fun n => ?_
  have w0 : ((⟨3, ![1, 1, N]⟩ : Shape).rowMajor.symm n 0).val = 0 := by rw [symm_lane]; rfl
  have w1 : ((⟨3, ![1, 1, N]⟩ : Shape).rowMajor.symm n 1).val = 0 := by rw [symm_lane]; rfl
  have w2 : ((⟨3, ![1, 1, N]⟩ : Shape).rowMajor.symm n 2).val = n.val := by rw [symm_lane]; rfl
  have ha := a.isLt
  have hb := b.isLt
  by_cases hc : M ≤ j.val + n.val ∧ j.val + n.val - M < N
  · rw [dif_pos (show M ≤ j.val + (finCongr (numel_lane N) n).val ∧ j.val + (finCongr (numel_lane N) n).val - M < N from hc)]
    have hin : ∀ q : Fin 3, (![0, 0, M] : Fin 3 → ℕ) q ≤ (ix3 a b j q).val * (![1, 1, 1] : Fin 3 → ℕ) q + ((⟨3, ![1, 1, N]⟩ : Shape).rowMajor.symm n q).val
        ∧ (ix3 a b j q).val * (![1, 1, 1] : Fin 3 → ℕ) q + ((⟨3, ![1, 1, N]⟩ : Shape).rowMajor.symm n q).val - (![0, 0, M] : Fin 3 → ℕ) q < (![A, B, N] : Fin 3 → ℕ) q := by
      intro q
      match q with
      | ⟨0, _⟩ =>
        show 0 ≤ a.val * 1 + ((⟨3, ![1, 1, N]⟩ : Shape).rowMajor.symm n 0).val ∧ a.val * 1 + ((⟨3, ![1, 1, N]⟩ : Shape).rowMajor.symm n 0).val - 0 < A
        rw [w0]; omega
      | ⟨1, _⟩ =>
        show 0 ≤ b.val * 1 + ((⟨3, ![1, 1, N]⟩ : Shape).rowMajor.symm n 1).val ∧ b.val * 1 + ((⟨3, ![1, 1, N]⟩ : Shape).rowMajor.symm n 1).val - 0 < B
        rw [w1]; omega
      | ⟨2, _⟩ =>
        show M ≤ j.val * 1 + ((⟨3, ![1, 1, N]⟩ : Shape).rowMajor.symm n 2).val ∧ j.val * 1 + ((⟨3, ![1, 1, N]⟩ : Shape).rowMajor.symm n 2).val - M < N
        rw [w2]; omega
    refine (dif_pos hin).trans (congrArg x (funext fun q => Fin.ext ?_))
    match q with
    | ⟨0, _⟩ =>
      show a.val * 1 + ((⟨3, ![1, 1, N]⟩ : Shape).rowMajor.symm n 0).val - 0 = a.val
      rw [w0]; omega
    | ⟨1, _⟩ =>
      show b.val * 1 + ((⟨3, ![1, 1, N]⟩ : Shape).rowMajor.symm n 1).val - 0 = b.val
      rw [w1]; omega
    | ⟨2, _⟩ =>
      show j.val * 1 + ((⟨3, ![1, 1, N]⟩ : Shape).rowMajor.symm n 2).val - M = j.val + n.val - M
      rw [w2]; omega
  · rw [dif_neg (show ¬(M ≤ j.val + (finCongr (numel_lane N) n).val ∧ j.val + (finCongr (numel_lane N) n).val - M < N) from hc)]
    refine dif_neg fun hin => hc ?_
    have h2 := hin 2
    change M ≤ j.val * 1 + ((⟨3, ![1, 1, N]⟩ : Shape).rowMajor.symm n 2).val ∧ j.val * 1 + ((⟨3, ![1, 1, N]⟩ : Shape).rowMajor.symm n 2).val - M < N at h2
    rw [w2] at h2
    omega

/-! ## The read of one number per place -/

/-- Each place reads the number of its own token at its word. -/
theorem gather_read (x : S2x2048x64.Idx → EReal) (idx : IVec S2x2048x64x1 32) (b : Fin 2) (t : Fin 2048) (s k : Fin 64)
    (hk : (idx (ix4 b t s (0 : Fin 1))).toInt = (k.val : Int)) :
    Host.gather gather_S2x2048x64_S2x2048x64x1_S2x2048x64_n_2_01_01_2_3_111 x idx (ix3 b t s) = x (ix3 b t k) := by
  have hkl := k.isLt
  unfold Host.gather
  refine congrArg x (funext fun a => Fin.ext ?_)
  show GatherDims.start _ (ix3 b t s) idx a + GatherDims.batchCoord _ (ix3 b t s) a + GatherDims.offCoord _ (ix3 b t s) a = _
  rw [GatherDims.offCoord_eq_zero _ _ _ (by revert a; decide)]
  have h012 : a = 0 ∨ a = 1 ∨ a = 2 := by revert a; decide
  rcases h012 with rfl | rfl | rfl
  · rw [GatherDims.start_batching _ _ _ _ (by decide)]
    unfold GatherDims.batchCoord
    rw [dif_pos (by decide)]
    exact Nat.zero_add _
  · rw [GatherDims.start_batching _ _ _ _ (by decide)]
    unfold GatherDims.batchCoord
    rw [dif_pos (by decide)]
    exact Nat.zero_add _
  · rw [GatherDims.batchCoord_eq_zero _ _ _ (by decide)]
    unfold GatherDims.start
    rw [dif_pos (by decide)]
    have hsi : GatherDims.siIdx gather_S2x2048x64_S2x2048x64x1_S2x2048x64_n_2_01_01_2_3_111 (ix3 b t s) ⟨List.idxOf (2 : Fin 3) [2], by decide⟩ = ix4 b t s (0 : Fin 1) := by
      funext q; refine Fin.ext ?_
      match q with
      | ⟨0, _⟩ => rfl
      | ⟨1, _⟩ => rfl
      | ⟨2, _⟩ => rfl
      | ⟨3, _⟩ => rfl
    show min (idx (GatherDims.siIdx gather_S2x2048x64_S2x2048x64x1_S2x2048x64_n_2_01_01_2_3_111 (ix3 b t s) ⟨List.idxOf (2 : Fin 3) [2], by decide⟩)).toInt.toNat (64 - 1) + 0 + 0 = k.val
    rw [hsi, hk]
    omega

/-! ## The writes -/

/-- Setting slot 0 of every token's row. -/
theorem set_first {α : Type} (x : S2x2048x64.Idx → α) (idx : IVec S1 32) (h0 : idx (ix1 (0 : Fin 1)) = 0#32) (upd : S2x2048.Idx → α) (b : Fin 2) (t : Fin 2048) (s : Fin 64) :
    Host.scatter scatter_S2x2048x64_S1_S2x2048_01_2_2_0 (fun _ b => b) x idx upd (ix3 b t s) = if s = 0 then upd (ix2 b t) else x (ix3 b t s) := by
  have lands : ∀ j : S2x2048.Idx, scatter_S2x2048x64_S1_S2x2048_01_2_2_0.resultIdx? j idx = some (ix3 b t s) ↔ (j 0 = b ∧ j 1 = t) ∧ s = 0 := by
    intro j
    have st0 : scatter_S2x2048x64_S1_S2x2048_01_2_2_0.start j idx 0 = 0 := by unfold ScatterDims.start; exact dif_neg (by decide)
    have st1 : scatter_S2x2048x64_S1_S2x2048_01_2_2_0.start j idx 1 = 0 := by unfold ScatterDims.start; exact dif_neg (by decide)
    have st2 : scatter_S2x2048x64_S1_S2x2048_01_2_2_0.start j idx 2 = 0 := by
      unfold ScatterDims.start
      rw [dif_pos (by decide)]
      refine (congrArg (fun i => (idx i).toInt) (show _ = ix1 (0 : Fin 1) from ?_)).trans (by rw [h0]; rfl)
      funext q
      match q with
      | ⟨0, _⟩ => exact Subsingleton.elim (α := Fin 1) _ _
    have w0 : scatter_S2x2048x64_S1_S2x2048_01_2_2_0.window j 0 = (j 0).val := by unfold ScatterDims.window; rw [dif_pos (by decide)]; rfl
    have w1 : scatter_S2x2048x64_S1_S2x2048_01_2_2_0.window j 1 = (j 1).val := by unfold ScatterDims.window; rw [dif_pos (by decide)]; rfl
    have w2 : scatter_S2x2048x64_S1_S2x2048_01_2_2_0.window j 2 = 0 := by unfold ScatterDims.window; exact dif_neg (by decide)
    rw [resultIdx?_eq_some]
    constructor
    · intro h
      have e0 := h 0; have e1 := h 1; have e2 := h 2
      rw [st0, w0] at e0; rw [st1, w1] at e1; rw [st2, w2] at e2
      change _ = (b.val : Int) at e0; change _ = (t.val : Int) at e1; change _ = (s.val : Int) at e2
      refine ⟨⟨Fin.ext ?_, Fin.ext ?_⟩, Fin.ext ?_⟩
      · omega
      · omega
      · show s.val = 0; omega
    · rintro ⟨⟨e0, e1⟩, e2⟩ q
      match q with
      | ⟨0, _⟩ => show scatter_S2x2048x64_S1_S2x2048_01_2_2_0.start j idx 0 + (scatter_S2x2048x64_S1_S2x2048_01_2_2_0.window j 0 : Int) = (b.val : Int); rw [st0, w0, e0]; omega
      | ⟨1, _⟩ => show scatter_S2x2048x64_S1_S2x2048_01_2_2_0.start j idx 1 + (scatter_S2x2048x64_S1_S2x2048_01_2_2_0.window j 1 : Int) = (t.val : Int); rw [st1, w1, e1]; omega
      | ⟨2, _⟩ => show scatter_S2x2048x64_S1_S2x2048_01_2_2_0.start j idx 2 + (scatter_S2x2048x64_S1_S2x2048_01_2_2_0.window j 2 : Int) = (s.val : Int); rw [st2, w2, e2]; rfl
  by_cases h : s = 0
  · rw [if_pos h]
    refine scatter_set_hit _ x idx upd _ _ (fun j hj => ?_) (ix2 b t) ((lands _).mpr ⟨⟨rfl, rfl⟩, h⟩)
    have e := ((lands j).mp hj).1
    rw [eq_ix2 j, e.1, e.2]
  · rw [if_neg h]
    exact scatter_set_miss _ x idx upd _ fun j hj => h ((lands j).mp hj).2

/-- Where an update with three index words lands. -/
theorem lands3 (idx : IVec S2x2048x64x3 32) (b b' : Fin 2) (t t' : Fin 2048) (s e : Fin 64) :
    scatter_S2x2048x64_S2x2048x64x3_S2x2048x64_n_012_012_3.resultIdx? (ix3 b t s) idx = some (ix3 b' t' e)
      ↔ (idx (ix4 b t s (0 : Fin 3))).toInt = (b'.val : Int) ∧ (idx (ix4 b t s (1 : Fin 3))).toInt = (t'.val : Int) ∧ (idx (ix4 b t s (2 : Fin 3))).toInt = (e.val : Int) := by
  have st : ∀ q : Fin 3, scatter_S2x2048x64_S2x2048x64x3_S2x2048x64_n_012_012_3.start (ix3 b t s) idx q = (idx (ix4 b t s q)).toInt := by
    intro q
    unfold ScatterDims.start
    rw [dif_pos (by revert q; decide)]
    refine congrArg (fun i => (idx i).toInt) (funext fun a => Fin.ext ?_)
    match q, a with
    | ⟨0, _⟩, ⟨0, _⟩ => rfl
    | ⟨0, _⟩, ⟨1, _⟩ => rfl
    | ⟨0, _⟩, ⟨2, _⟩ => rfl
    | ⟨0, _⟩, ⟨3, _⟩ => rfl
    | ⟨1, _⟩, ⟨0, _⟩ => rfl
    | ⟨1, _⟩, ⟨1, _⟩ => rfl
    | ⟨1, _⟩, ⟨2, _⟩ => rfl
    | ⟨1, _⟩, ⟨3, _⟩ => rfl
    | ⟨2, _⟩, ⟨0, _⟩ => rfl
    | ⟨2, _⟩, ⟨1, _⟩ => rfl
    | ⟨2, _⟩, ⟨2, _⟩ => rfl
    | ⟨2, _⟩, ⟨3, _⟩ => rfl
  have wn : ∀ q : Fin 3, scatter_S2x2048x64_S2x2048x64x3_S2x2048x64_n_012_012_3.window (ix3 b t s) q = 0 := by
    intro q; unfold ScatterDims.window; exact dif_neg (by revert q; decide)
  rw [resultIdx?_eq_some]
  constructor
  · intro h
    have e0 := h 0; have e1 := h 1; have e2 := h 2
    rw [st, wn, Int.natCast_zero, add_zero] at e0 e1 e2
    exact ⟨e0, e1, e2⟩
  · rintro ⟨e0, e1, e2⟩ q
    rw [st, wn, Int.natCast_zero, add_zero]
    match q with
    | ⟨0, _⟩ => exact e0
    | ⟨1, _⟩ => exact e1
    | ⟨2, _⟩ => exact e2

/-- Where an update with four index words lands. -/
theorem lands4 (idx : IVec S2x2048x64x4 32) (b b' : Fin 2) (t t' : Fin 2048) (s e : Fin 64) (k : Fin 40) :
    scatter_S2x2048x64x40_S2x2048x64x4_S2x2048x64_n_0123_0123_3.resultIdx? (ix3 b t s) idx = some (ix4 b' t' e k)
      ↔ (idx (ix4 b t s (0 : Fin 4))).toInt = (b'.val : Int) ∧ (idx (ix4 b t s (1 : Fin 4))).toInt = (t'.val : Int)
        ∧ (idx (ix4 b t s (2 : Fin 4))).toInt = (e.val : Int) ∧ (idx (ix4 b t s (3 : Fin 4))).toInt = (k.val : Int) := by
  have st : ∀ q : Fin 4, scatter_S2x2048x64x40_S2x2048x64x4_S2x2048x64_n_0123_0123_3.start (ix3 b t s) idx q = (idx (ix4 b t s q)).toInt := by
    intro q
    unfold ScatterDims.start
    rw [dif_pos (by revert q; decide)]
    refine congrArg (fun i => (idx i).toInt) (funext fun a => Fin.ext ?_)
    match q, a with
    | ⟨0, _⟩, ⟨0, _⟩ => rfl
    | ⟨0, _⟩, ⟨1, _⟩ => rfl
    | ⟨0, _⟩, ⟨2, _⟩ => rfl
    | ⟨0, _⟩, ⟨3, _⟩ => rfl
    | ⟨1, _⟩, ⟨0, _⟩ => rfl
    | ⟨1, _⟩, ⟨1, _⟩ => rfl
    | ⟨1, _⟩, ⟨2, _⟩ => rfl
    | ⟨1, _⟩, ⟨3, _⟩ => rfl
    | ⟨2, _⟩, ⟨0, _⟩ => rfl
    | ⟨2, _⟩, ⟨1, _⟩ => rfl
    | ⟨2, _⟩, ⟨2, _⟩ => rfl
    | ⟨2, _⟩, ⟨3, _⟩ => rfl
    | ⟨3, _⟩, ⟨0, _⟩ => rfl
    | ⟨3, _⟩, ⟨1, _⟩ => rfl
    | ⟨3, _⟩, ⟨2, _⟩ => rfl
    | ⟨3, _⟩, ⟨3, _⟩ => rfl
  have wn : ∀ q : Fin 4, scatter_S2x2048x64x40_S2x2048x64x4_S2x2048x64_n_0123_0123_3.window (ix3 b t s) q = 0 := by
    intro q; unfold ScatterDims.window; exact dif_neg (by revert q; decide)
  rw [resultIdx?_eq_some]
  constructor
  · intro h
    have e0 := h 0; have e1 := h 1; have e2 := h 2; have e3 := h 3
    rw [st, wn, Int.natCast_zero, add_zero] at e0 e1 e2 e3
    exact ⟨e0, e1, e2, e3⟩
  · rintro ⟨e0, e1, e2, e3⟩ q
    rw [st, wn, Int.natCast_zero, add_zero]
    match q with
    | ⟨0, _⟩ => exact e0
    | ⟨1, _⟩ => exact e1
    | ⟨2, _⟩ => exact e2
    | ⟨3, _⟩ => exact e3

end Cert.ReferenceIdeal.Hand

end
-- ==== Proof.Reference.Keep.lean ====
module

public import proofs.«01_k».proof.Proof.Reference.Probs
public import proofs.«01_k».proof.Proof.Reference.Order
public import proofs.«01_k».proof.Proof.Reference.Ops
public import Idealize.ShloMosaic.Lib.ReduceAll

/-! # The reference's sorted probabilities and the places it keeps -/

@[expose] public section

set_option maxRecDepth 16384

noncomputable section

namespace Cert.ReferenceIdeal.Hand
open Cert.ReferenceIdeal Cert.ReferenceIdeal.Gen Cert.ReferenceIdeal.Value Cert.Router
open Idealize.ShloMosaic Idealize.ShloMosaic.TcCoe Idealize.ShloMosaic.Routing

variable (V : Valuation τ sig (Elt Ideal))

/-- Wrapping a word that is not negative leaves it. -/
theorem wrap_word (n : ℕ) (hn : n < 2 ^ 31) (a : BitVec 32) :
    Scalar.select (IntOp.cmpi .slt (BitVec.ofNat 32 n) 0#32) a (BitVec.ofNat 32 n) = BitVec.ofNat 32 n :=
  wrap_of_lt _ _ (by rw [BitVec.toNat_ofNat]; omega)

/-- The wrapped words as one-word index vectors. -/
def wrapped (v : IVec S2x2048x64 32) : IVec S2x2048x64x1 32 :=
  shapeCast _ (select (cmpi .slt v (broadcastInDim S2x2048x64 ![] bcast_S_S2x2048x64 (constantI S_ 32 0#32)))
    (addi v (broadcastInDim S2x2048x64 ![] bcast_S_S2x2048x64 (constantI S_ 32 64#32))) v) shapeCasts_S2x2048x64_S2x2048x64x1

/-- A word that is already a lane number stays as it is. -/
theorem wrapped_apply (v : IVec S2x2048x64 32) (b : Fin 2) (t : Fin 2048) (s : Fin 64) (k : Fin 64) (hv : v (ix3 b t s) = BitVec.ofNat 32 k.val) :
    wrapped v (ix4 b t s (0 : Fin 1)) = BitVec.ofNat 32 k.val := by
  have hk := k.isLt
  unfold wrapped
  refine (shapeCast_apply _ _ (ix4 b t s (0 : Fin 1)) (ix3 b t s) ?_).trans ?_
  · rw [Shape.rowMajor_val_three, Shape.rowMajor_val_four]
    show (b.val * 2048 + t.val) * 64 + s.val = ((b.val * 2048 + t.val) * 64 + s.val) * 1 + 0
    omega
  · show Scalar.select (IntOp.cmpi .slt (v (ix3 b t s)) 0#32) (v (ix3 b t s) + 64#32) (v (ix3 b t s)) = _
    rw [hv]
    exact wrap_word _ (by omega) _

/-- Every place's number, read at its word, where the word is in range. -/
def taken (x : FVec Ideal S2x2048x64 .f32) (i : IVec S2x2048x64x1 32) : FVec Ideal S2x2048x64 .f32 :=
  select (Host.reduce IntOp.andi (andi (cmpi .sge i (broadcastInDim S2x2048x64x1 ![] bcast_S_S2x2048x64x1 (constantI S_ 32 0#32)))
      (cmpi .sle i (broadcastInDim S2x2048x64x1 ![0, 1, 2, 3] bcast_S1x1x1x1_S2x2048x64x1_0_1_2_3 (broadcastInDim S1x1x1x1 ![3] bcast_S1_S1x1x1x1_3 (constantI S1 32 63#32)))))
      (constantI S_ 1 1#1) reducesTo_S2x2048x64x1_S2x2048x64_d3 h_S_)
    (Host.gather gather_S2x2048x64_S2x2048x64x1_S2x2048x64_n_2_01_01_2_3_111 x i) (broadcastInDim S2x2048x64 ![] bcast_S_S2x2048x64 (constant S_ .f32 0x7FC00000#32))

/-- The take along the last axis reads the row at the place the index word names. -/
theorem taken_apply (x : FVec Ideal S2x2048x64 .f32) (i : IVec S2x2048x64x1 32) (k : Fin 2 → Fin 2048 → Fin 64 → Fin 64)
    (hi : ∀ b t s, i (ix4 b t s (0 : Fin 1)) = BitVec.ofNat 32 (k b t s).val) (b : Fin 2) (t : Fin 2048) (s : Fin 64) :
    taken x i (ix3 b t s) = x (ix3 b t (k b t s)) := by
  have hr := Host.reduce_andi_one (andi (cmpi .sge i (broadcastInDim S2x2048x64x1 ![] bcast_S_S2x2048x64x1 (constantI S_ 32 0#32)))
      (cmpi .sle i (broadcastInDim S2x2048x64x1 ![0, 1, 2, 3] bcast_S1x1x1x1_S2x2048x64x1_0_1_2_3 (broadcastInDim S1x1x1x1 ![3] bcast_S1_S1x1x1x1_3 (constantI S1 32 63#32)))))
      (constantI S_ 1 1#1) reducesTo_S2x2048x64x1_S2x2048x64_d3 h_S_ (ix3 b t s) rfl (fun j => by
        obtain ⟨b', t', s', z, rfl⟩ : ∃ (b' : Fin 2) (t' : Fin 2048) (s' : Fin 64) (z : Fin 1), j = ix4 b' t' s' z := ⟨j 0, j 1, j 2, j 3, eq_ix4 j⟩
        obtain rfl : z = 0 := Subsingleton.elim _ _
        have hk := (k b' t' s').isLt
        show IntOp.andi (IntOp.cmpi .sge (i (ix4 b' t' s' (0 : Fin 1))) 0#32) (IntOp.cmpi .sle (i (ix4 b' t' s' (0 : Fin 1))) (BitVec.ofNat 32 63)) = 1#1
        rw [hi, WordCmp.cmpi_sle_ofNat (by omega) (by omega), show (0#32) = BitVec.ofNat 32 0 from rfl, WordCmp.cmpi_sge_ofNat (by omega) (by omega)]
        rw [decide_eq_true (by omega), decide_eq_true (by omega)]
        rfl)
  unfold taken
  show Scalar.select (Host.reduce IntOp.andi _ _ _ _ (ix3 b t s)) _ _ = _
  rw [hr]
  refine (WordCmp.select_one _ _).trans (gather_read x i b t s (k b t s) ?_)
  have hk := (k b t s).isLt
  rw [hi, WordCmp.toInt_ofNat_of_lt (by omega)]

/-- The index words of the gather are the experts in descending order. -/
theorem call1_v5_apply (b : Fin 2) (t : Fin 2048) (s : Fin 64) :
    (res_main_call1_v5 V : S2x2048x64x1.Idx → BitVec 32) (ix4 b t s (0 : Fin 1)) = BitVec.ofNat 32 (atPlace (P V b t) s).val :=
  wrapped_apply (res_main_v13 V) b t s _ (v13_apply V b t s)

/-- The probability in place `s`. -/
theorem v14_apply (b : Fin 2) (t : Fin 2048) (s : Fin 64) : (res_main_v14 V : S2x2048x64.Idx → EReal) (ix3 b t s) = desc (P V b t) s :=
  (taken_apply (res_main_v11 V) (res_main_call1_v5 V) (fun b t s => atPlace (P V b t) s) (fun b t s => call1_v5_apply V b t s) b t s).trans
    (v11_apply V b t _)

/-- The places at which the running sum is below the threshold, the first always. -/
def below (u : FVec Ideal S2x2048x64 .f32) : IVec S2x2048x64 1 :=
  Host.scatter scatter_S2x2048x64_S1_S2x2048_01_2_2_0 (fun _ b => b) (cmpf .olt (Host.reduceWindowAdd ![1, 1, 64] ![1, 1, 1] ![0, 0, 63] ![0, 0, 0] u
      (broadcastInDim S_ ![] bcast_S_S_ (constant S_ .f32 0x00000000#32)) reduceWindows_S2x2048x64_S2x2048x64_w1s1p0_0_w1s1p0_0_w64s1p63_0 h_S_)
      (broadcastInDim S2x2048x64 ![] bcast_S_S2x2048x64 (constant S_ .f32 0x3F4CCCCD#32)))
    (broadcastInDim S1 ![] bcast_S_S1 (constantI S_ 32 0#32)) (broadcastInDim S2x2048 ![] bcast_S_S2x2048 (constantI S_ 1 1#1))

open Classical in
/-- The mask of the places whose running sum is below the threshold. -/
theorem below_apply (u : FVec Ideal S2x2048x64 .f32) (b : Fin 2) (t : Fin 2048) (s : Fin 64) (p : Fin 64 → EReal) (hu : ∀ s, u (ix3 b t s) = desc p s) :
    below u (ix3 b t s) = BitVec.ofBool (decide (s = 0 ∨ csum p s < theta)) := by
  unfold below
  rw [set_first _ _ rfl]
  by_cases h : s = 0
  · rw [if_pos h, decide_eq_true (Or.inl h)]; rfl
  · rw [if_neg h]
    have hc : Host.reduceWindowAdd (F := Ideal) ![1, 1, 64] ![1, 1, 1] ![0, 0, 63] ![0, 0, 0] u
      (broadcastInDim S_ ![] bcast_S_S_ (constant S_ .f32 0x00000000#32)) reduceWindows_S2x2048x64_S2x2048x64_w1s1p0_0_w1s1p0_0_w64s1p63_0 h_S_ (ix3 b t s) = csum p s := by
      refine (cumsum_last (N := 64) (M := 63) rfl u _ bits_zero reduceWindows_S2x2048x64_S2x2048x64_w1s1p0_0_w1s1p0_0_w64s1p63_0 b t s).trans ?_
      simp only [hu]
      rfl
    show Ideal.cmp .olt (Host.reduceWindowAdd (F := Ideal) ![1, 1, 64] ![1, 1, 1] ![0, 0, 63] ![0, 0, 0] u
      (broadcastInDim S_ ![] bcast_S_S_ (constant S_ .f32 0x00000000#32)) reduceWindows_S2x2048x64_S2x2048x64_w1s1p0_0_w1s1p0_0_w64s1p63_0 h_S_ (ix3 b t s)) theta = _
    rw [hc]
    show BitVec.ofBool (decide (csum p s < theta)) = _
    congr 2
    simp [h]

/-- How many places of a row are marked. -/
def counted (m : IVec S2x2048x64 1) : IVec S2x2048 32 :=
  Host.reduce IntOp.addi (extui 32 m natLt_1_32) (constantI S_ 32 0#32) reducesTo_S2x2048x64_S2x2048_d2 h_S_

/-- Adding up single bits counts those that are set. -/
theorem fold_bits (q : Fin 64 → BitVec 1) (S : Finset (Fin 64)) :
    Finset.fold IntOp.addi (0#32) (fun x => BitVec.setWidth 32 (q x)) S = BitVec.ofNat 32 (S.filter fun x => q x = 1#1).card := by
  classical
  induction S using Finset.induction_on with
  | empty => simp
  | insert a S ha ih =>
    rw [Finset.fold_insert ha, ih, Finset.filter_insert]
    by_cases h : q a = 1#1
    · rw [if_pos h, Finset.card_insert_of_notMem (by simp [ha]), h, Nat.add_comm, BitVec.ofNat_add]; rfl
    · rw [if_neg h]
      have h0 : q a = 0#1 := by
        revert h; generalize q a = w; revert w; decide
      rw [h0]
      exact BitVec.zero_add _

/-- The count of the ones in a row of bits, as a word. -/
theorem counted_apply (m : IVec S2x2048x64 1) (b : Fin 2) (t : Fin 2048) :
    counted m (ix2 b t) = BitVec.ofNat 32 (Finset.univ.filter fun s : Fin 64 => m (ix3 b t s) = 1#1).card := by
  pointwise [counted]
  exact fold_bits (fun s => m (ix3 b t s)) Finset.univ

/-- The mask of the places before a row's count. -/
def firsts (n : IVec S2x2048 32) : IVec S2x2048x64 1 :=
  cmpi .slt (broadcastInDim S2x2048x64 ![0, 1, 2] bcast_S1x1x64_S2x2048x64_0_1_2 (broadcastInDim S1x1x64 ![2] bcast_S64_S1x1x64_2 (iotaInDim S64 32 0)))
    (broadcastInDim S2x2048x64 ![0, 1, 2] bcast_S2x2048x1_S2x2048x64_0_1_2 (broadcastInDim S2x2048x1 ![0, 1] bcast_S2x2048_S2x2048x1_0_1
      (minsi n (broadcastInDim S2x2048 ![] bcast_S_S2x2048 (constantI S_ 32 64#32)))))

/-- The bound of 64 changes no count up to 64. -/
theorem min_word : ∀ k : Fin 65, IntOp.minsi (BitVec.ofNat 32 k.val) 64#32 = BitVec.ofNat 32 k.val := by decide +kernel

/-- The mask of the places below a count. -/
theorem firsts_apply (n : IVec S2x2048 32) (b : Fin 2) (t : Fin 2048) (s : Fin 64) (k : ℕ) (hk : k ≤ 64) (hn : n (ix2 b t) = BitVec.ofNat 32 k) :
    firsts n (ix3 b t s) = BitVec.ofBool (decide (s.val < k)) := by
  have hs := s.isLt
  have h : firsts n (ix3 b t s) = IntOp.cmpi .slt (BitVec.ofNat 32 s.val) (IntOp.minsi (n (ix2 b t)) 64#32) := by
    pointwise [firsts]
  rw [h, hn, min_word ⟨k, by omega⟩, WordCmp.cmpi_slt_ofNat (by omega) (by omega)]

/-- The places that are kept: the first `kst` ones. -/
theorem v30_apply (b : Fin 2) (t : Fin 2048) (s : Fin 64) :
    (res_main_v30 V : S2x2048x64.Idx → BitVec 1) (ix3 b t s) = BitVec.ofBool (decide (s.val < kst (P V b t))) := by
  classical
  refine firsts_apply (counted (below (res_main_v14 V))) b t s _ (kst_le _) ?_
  rw [counted_apply]
  congr 1
  rw [← kst_eq (show Good (P V b t) from soft_good _)]
  congr 1
  refine Finset.filter_congr fun i _ => ?_
  rw [below_apply (res_main_v14 V) b t i (P V b t) fun s => v14_apply V b t s]
  by_cases h : i = 0 ∨ csum (P V b t) i < theta
  · simp [h]
  · simp [h]

/-- The kept places' experts, others marked. -/
theorem v31_apply (b : Fin 2) (t : Fin 2048) (s : Fin 64) : (res_main_v31 V : S2x2048x64.Idx → BitVec 32) (ix3 b t s)
    = if s.val < kst (P V b t) then BitVec.ofNat 32 (atPlace (P V b t) s).val else 4294967295#32 := by
  show Scalar.select ((res_main_v30 V : S2x2048x64.Idx → BitVec 1) (ix3 b t s)) ((res_main_v13 V : S2x2048x64.Idx → BitVec 32) (ix3 b t s)) 4294967295#32 = _
  rw [v30_apply, v13_apply, WordCmp.select_decide]

/-- The kept places' probabilities, zero elsewhere. -/
theorem v32_apply (b : Fin 2) (t : Fin 2048) (s : Fin 64) : (res_main_v32 V : S2x2048x64.Idx → EReal) (ix3 b t s)
    = if s.val < kst (P V b t) then desc (P V b t) s else 0 := by
  show Scalar.select ((res_main_v30 V : S2x2048x64.Idx → BitVec 1) (ix3 b t s)) ((res_main_v14 V : S2x2048x64.Idx → EReal) (ix3 b t s)) (Ideal.ofBits .f32 0x00000000#32) = _
  rw [v30_apply, v14_apply, bits_zero, WordCmp.select_decide]

/-- The bound of zero changes no lane number. -/
theorem max_word : ∀ k : Fin 64, IntOp.maxsi (BitVec.ofNat 32 k.val) 0#32 = BitVec.ofNat 32 k.val := by decide +kernel

/-- The expert that a place writes to: its own if the place is kept, else expert 0. -/
theorem v42_apply (b : Fin 2) (t : Fin 2048) (s : Fin 64) : (res_main_v42 V : S2x2048x64.Idx → BitVec 32) (ix3 b t s)
    = BitVec.ofNat 32 (if s.val < kst (P V b t) then atPlace (P V b t) s else 0).val := by
  show IntOp.maxsi ((res_main_v31 V : S2x2048x64.Idx → BitVec 32) (ix3 b t s)) 0#32 = _
  rw [v31_apply]
  by_cases h : s.val < kst (P V b t)
  · rw [if_pos h, if_pos h, max_word]
  · rw [if_neg h, if_neg h]; decide

/-- The words of the batch, the token and the expert of an index. -/
theorem v45_apply (b : Fin 2) (t : Fin 2048) (s : Fin 64) : (res_main_v45 V : S2x2048x64.Idx → BitVec 32) (ix3 b t s) = BitVec.ofNat 32 b.val := rfl
/-- The token numbers. -/
theorem v48_apply (b : Fin 2) (t : Fin 2048) (s : Fin 64) : (res_main_v48 V : S2x2048x64.Idx → BitVec 32) (ix3 b t s) = BitVec.ofNat 32 t.val := rfl
/-- The expert numbers. -/
theorem v110_apply (b : Fin 2) (t : Fin 2048) (s : Fin 64) : (res_main_v110 V : S2x2048x64.Idx → BitVec 32) (ix3 b t s) = BitVec.ofNat 32 s.val := rfl

end Cert.ReferenceIdeal.Hand

end
-- ==== Proof.Reference.Masks.lean ====
module

public import proofs.«01_k».proof.Proof.Reference.Keep

/-! # The reference's masks and weights per expert -/

@[expose] public section

set_option maxRecDepth 16384

noncomputable section

namespace Cert.ReferenceIdeal.Hand
open Cert.ReferenceIdeal Cert.ReferenceIdeal.Gen Cert.ReferenceIdeal.Value Cert.Router
open Idealize.ShloMosaic Idealize.ShloMosaic.TcCoe Idealize.ShloMosaic.Routing

variable (V : Valuation τ sig (Elt Ideal))

/-! ## Index vectors -/

/-- The wrapped words along one more axis. -/
def wrapBy (n : BitVec 32) (v : IVec S2x2048x64 32) : IVec S2x2048x64x1 32 :=
  broadcastInDim S2x2048x64x1 ![0, 1, 2] bcast_S2x2048x64_S2x2048x64x1_0_1_2 (select (cmpi .slt v (broadcastInDim S2x2048x64 ![] bcast_S_S2x2048x64 (constantI S_ 32 0#32)))
    (addi v (broadcastInDim S2x2048x64 ![] bcast_S_S2x2048x64 (constantI S_ 32 n))) v)

/-- A word that is not negative is not wrapped. -/
theorem wrapBy_apply (n : BitVec 32) (v : IVec S2x2048x64 32) (b : Fin 2) (t : Fin 2048) (s : Fin 64) (k : ℕ) (hk : k < 2 ^ 31)
    (hv : v (ix3 b t s) = BitVec.ofNat 32 k) : (wrapBy n v (ix4 b t s (0 : Fin 1))).toInt = (k : Int) := by
  have h : wrapBy n v (ix4 b t s (0 : Fin 1)) = Scalar.select (IntOp.cmpi .slt (v (ix3 b t s)) 0#32) (v (ix3 b t s) + n) (v (ix3 b t s)) := by
    pointwise [wrapBy]
    rfl
  rw [h, hv, wrap_word _ hk, WordCmp.toInt_ofNat_of_lt (by omega)]

/-- Three words per place. -/
def words3 (x y z : IVec S2x2048x64 32) : IVec S2x2048x64x3 32 :=
  concatenate S2x2048x64x3 3 [⟨S2x2048x64x1, wrapBy 2#32 x⟩, ⟨S2x2048x64x1, wrapBy 2048#32 y⟩, ⟨S2x2048x64x1, wrapBy 64#32 z⟩]
    concatenates_S2x2048x64x1_S2x2048x64x1_S2x2048x64x1_S2x2048x64x3_d3

/-- The three components of the index vectors. -/
theorem words3_apply (x y z : IVec S2x2048x64 32) (b : Fin 2) (t : Fin 2048) (s : Fin 64) :
    words3 x y z (ix4 b t s (0 : Fin 3)) = wrapBy 2#32 x (ix4 b t s (0 : Fin 1))
      ∧ words3 x y z (ix4 b t s (1 : Fin 3)) = wrapBy 2048#32 y (ix4 b t s (0 : Fin 1))
      ∧ words3 x y z (ix4 b t s (2 : Fin 3)) = wrapBy 64#32 z (ix4 b t s (0 : Fin 1)) := by
  unfold words3
  generalize wrapBy 2#32 x = u
  generalize wrapBy 2048#32 y = v
  generalize wrapBy 64#32 z = w
  refine ⟨?_, ?_, ?_⟩
  · pointwise
  · pointwise
  · pointwise

/-- Four words per place. -/
def words4 (x y z w : IVec S2x2048x64 32) : IVec S2x2048x64x4 32 :=
  concatenate S2x2048x64x4 3 [⟨S2x2048x64x1, wrapBy 2#32 x⟩, ⟨S2x2048x64x1, wrapBy 2048#32 y⟩, ⟨S2x2048x64x1, wrapBy 64#32 z⟩, ⟨S2x2048x64x1, wrapBy 40#32 w⟩]
    concatenates_S2x2048x64x1_S2x2048x64x1_S2x2048x64x1_S2x2048x64x1_S2x2048x64x4_d3

/-- The four components of the index vectors. -/
theorem words4_apply (x y z w : IVec S2x2048x64 32) (b : Fin 2) (t : Fin 2048) (s : Fin 64) :
    words4 x y z w (ix4 b t s (0 : Fin 4)) = wrapBy 2#32 x (ix4 b t s (0 : Fin 1))
      ∧ words4 x y z w (ix4 b t s (1 : Fin 4)) = wrapBy 2048#32 y (ix4 b t s (0 : Fin 1))
      ∧ words4 x y z w (ix4 b t s (2 : Fin 4)) = wrapBy 64#32 z (ix4 b t s (0 : Fin 1))
      ∧ words4 x y z w (ix4 b t s (3 : Fin 4)) = wrapBy 40#32 w (ix4 b t s (0 : Fin 1)) := by
  unfold words4
  generalize wrapBy 2#32 x = u₁
  generalize wrapBy 2048#32 y = u₂
  generalize wrapBy 64#32 z = u₃
  generalize wrapBy 40#32 w = u₄
  refine ⟨?_, ?_, ?_, ?_⟩
  · pointwise
  · pointwise
  · pointwise
  · pointwise

/-! ## Adding rows up by expert -/

/-- The sum of the row's numbers that go to an expert. -/
theorem scatter_row (x upd : S2x2048x64.Idx → EReal) (idx : IVec S2x2048x64x3 32) (k : Fin 2 → Fin 2048 → Fin 64 → Fin 64)
    (h0 : ∀ b t s, (idx (ix4 b t s (0 : Fin 3))).toInt = (b.val : Int)) (h1 : ∀ b t s, (idx (ix4 b t s (1 : Fin 3))).toInt = (t.val : Int))
    (h2 : ∀ b t s, (idx (ix4 b t s (2 : Fin 3))).toInt = ((k b t s).val : Int)) (b : Fin 2) (t : Fin 2048) (e : Fin 64) :
    Ideal.hostScatterAdd scatter_S2x2048x64_S2x2048x64x3_S2x2048x64_n_012_012_3 x idx upd (ix3 b t e)
      = x (ix3 b t e) + ∑ s : Fin 64, if k b t s = e then upd (ix3 b t s) else 0 := by
  unfold Ideal.hostScatterAdd
  congr 1
  rw [← Finset.sum_filter]
  have key : ∀ (b' : Fin 2) (t' : Fin 2048) (s : Fin 64), scatter_S2x2048x64_S2x2048x64x3_S2x2048x64_n_012_012_3.resultIdx? (ix3 b' t' s) idx = some (ix3 b t e)
      ↔ b' = b ∧ t' = t ∧ k b' t' s = e := by
    intro b' t' s
    rw [lands3, h0, h1, h2, Fin.ext_iff, Fin.ext_iff, Fin.ext_iff]
    omega
  symm
  refine Finset.sum_bij (fun s _ => ix3 b t s) ?_ ?_ ?_ ?_
  · intro s hs
    rw [Finset.mem_filter] at hs ⊢
    exact ⟨Finset.mem_univ _, (key b t s).mpr ⟨rfl, rfl, hs.2⟩⟩
  · intro s _ s' _ h
    exact congrFun h 2
  · intro j hj
    obtain ⟨b', t', s, rfl⟩ : ∃ (b' : Fin 2) (t' : Fin 2048) (s : Fin 64), j = ix3 b' t' s := ⟨j 0, j 1, j 2, eq_ix3 j⟩
    rw [Finset.mem_filter] at hj
    obtain ⟨rfl, rfl, h⟩ := (key b' t' s).mp hj.2
    exact ⟨s, Finset.mem_filter.mpr ⟨Finset.mem_univ _, h⟩, rfl⟩
  · intro s _; rfl

/-- Where the place's expert goes when only the kept places carry a number. -/
theorem row_sum (p f : Fin 64 → EReal) (e : Fin 64) :
    (∑ s : Fin 64, if (if s.val < kst p then atPlace p s else 0) = e then (if s.val < kst p then f s else 0) else 0)
      = if rank p e < kst p then f ⟨rank p e, rank_lt p e⟩ else 0 := by
  have h : ∀ s : Fin 64, (if (if s.val < kst p then atPlace p s else 0) = e then (if s.val < kst p then f s else 0) else 0)
      = if s = ⟨rank p e, rank_lt p e⟩ then (if s.val < kst p then f s else 0) else 0 := by
    intro s
    by_cases hs : s.val < kst p
    · simp only [if_pos hs, atPlace_eq_iff]
      by_cases hr : rank p e = s.val
      · rw [if_pos hr, if_pos (Fin.ext hr.symm)]
      · rw [if_neg hr, if_neg fun q => hr (congrArg Fin.val q).symm]
    · simp only [if_neg hs, ite_self]
  rw [Finset.sum_congr rfl fun s _ => h s, Finset.sum_ite_eq' Finset.univ, if_pos (Finset.mem_univ _)]

/-- The index words of the sums by expert. -/
theorem words_v42 : (∀ b t s, (words3 (res_main_v45 V) (res_main_v48 V) (res_main_v42 V) (ix4 b t s (0 : Fin 3))).toInt = (b.val : Int))
    ∧ (∀ b t s, (words3 (res_main_v45 V) (res_main_v48 V) (res_main_v42 V) (ix4 b t s (1 : Fin 3))).toInt = (t.val : Int))
    ∧ ∀ b t s, (words3 (res_main_v45 V) (res_main_v48 V) (res_main_v42 V) (ix4 b t s (2 : Fin 3))).toInt
        = ((if s.val < kst (P V b t) then atPlace (P V b t) s else 0).val : Int) := by
  refine ⟨fun b t s => ?_, fun b t s => ?_, fun b t s => ?_⟩
  · rw [(words3_apply _ _ _ b t s).1]
    exact wrapBy_apply _ _ b t s _ (by have := b.isLt; omega) (v45_apply V b t s)
  · rw [(words3_apply _ _ _ b t s).2.1]
    exact wrapBy_apply _ _ b t s _ (by have := t.isLt; omega) (v48_apply V b t s)
  · rw [(words3_apply _ _ _ b t s).2.2]
    exact wrapBy_apply _ _ b t s _ (lt_trans (Fin.isLt _) (by norm_num)) (v42_apply V b t s)

/-- An array of zeros. -/
def zeros : FVec Ideal S2x2048x64 .f32 := broadcastInDim S2x2048x64 ![] bcast_S_S2x2048x64 (constant S_ .f32 0x00000000#32)

/-- The array of zeros reads zero. -/
theorem zeros_apply (b : Fin 2) (t : Fin 2048) (e : Fin 64) : zeros (ix3 b t e) = 0 := bits_zero

/-- No expert number is the mark of an empty place. -/
theorem ne_mark : ∀ k : Fin 64, IntOp.cmpi .ne (BitVec.ofNat 32 k.val) 4294967295#32 = 1#1 := by decide +kernel

/-- One where a place holds an expert. -/
def valid (v : IVec S2x2048x64 32) : FVec Ideal S2x2048x64 .f32 :=
  uitofp .f32 (cmpi .ne v (broadcastInDim S2x2048x64 ![] bcast_S_S2x2048x64 (constantI S_ 32 4294967295#32)))

/-- One for the kept places. -/
theorem valid_apply (p : Fin 64 → EReal) (v : IVec S2x2048x64 32) (b : Fin 2) (t : Fin 2048)
    (hv : ∀ s : Fin 64, v (ix3 b t s) = if s.val < kst p then BitVec.ofNat 32 (atPlace p s).val else 4294967295#32) (s : Fin 64) :
    valid v (ix3 b t s) = if s.val < kst p then 1 else 0 := by
  show (((IntOp.cmpi .ne (v (ix3 b t s)) 4294967295#32).toNat : ℝ) : EReal) = _
  rw [hv]
  by_cases h : s.val < kst p
  · rw [if_pos h, if_pos h, ne_mark]; simp
  · rw [if_neg h, if_neg h]
    have : IntOp.cmpi .ne 4294967295#32 4294967295#32 = 0#1 := by decide
    rw [this]; simp

/-- The numbers of the places, added up per expert. -/
def byExpert (i : IVec S2x2048x64x3 32) (u : FVec Ideal S2x2048x64 .f32) : FVec Ideal S2x2048x64 .f32 :=
  Host.scatterAdd scatter_S2x2048x64_S2x2048x64x3_S2x2048x64_n_012_012_3 zeros i u

/-- An expert gets the number of its place if that place is kept. -/
theorem byExpert_apply (p : Fin 2 → Fin 2048 → Fin 64 → EReal) (i : IVec S2x2048x64x3 32) (u : FVec Ideal S2x2048x64 .f32) (f : Fin 64 → EReal)
    (h0 : ∀ b t s, (i (ix4 b t s (0 : Fin 3))).toInt = (b.val : Int)) (h1 : ∀ b t s, (i (ix4 b t s (1 : Fin 3))).toInt = (t.val : Int))
    (h2 : ∀ b t s, (i (ix4 b t s (2 : Fin 3))).toInt = ((if s.val < kst (p b t) then atPlace (p b t) s else 0).val : Int))
    (b : Fin 2) (t : Fin 2048) (e : Fin 64) (hu : ∀ s : Fin 64, u (ix3 b t s) = if s.val < kst (p b t) then f s else 0) :
    byExpert i u (ix3 b t e) = if rank (p b t) e < kst (p b t) then f ⟨rank (p b t) e, rank_lt (p b t) e⟩ else 0 := by
  have hs := scatter_row zeros u i (fun b t s => if s.val < kst (p b t) then atPlace (p b t) s else 0) h0 h1 h2 b t e
  rw [zeros_apply, zero_add] at hs
  exact hs.trans ((Finset.sum_congr rfl fun s _ => by rw [hu s]).trans (row_sum (p b t) f e))

/-- The kept probabilities over their sum. -/
def shares (u : FVec Ideal S2x2048x64 .f32) : FVec Ideal S2x2048x64 .f32 :=
  Host.divf u (broadcastInDim S2x2048x64 ![0, 1, 2] bcast_S2x2048x1_S2x2048x64_0_1_2 (maximumf (broadcastInDim S2x2048x1 ![0, 1] bcast_S2x2048_S2x2048x1_0_1
    (Host.reduceAdd u (constant S_ .f32 0x00000000#32) reducesTo_S2x2048x64_S2x2048_d2 h_S_)) (broadcastInDim S2x2048x1 ![] bcast_S_S2x2048x1 (constant S_ .f32 0x3089705F#32))))

/-- A share is the number over the sum of its row, that sum bounded from below. -/
theorem shares_apply (u : FVec Ideal S2x2048x64 .f32) (b : Fin 2) (t : Fin 2048) (s : Fin 64) :
    shares u (ix3 b t s) = Ideal.div (u (ix3 b t s)) (max (∑ s, u (ix3 b t s)) tiny) := by
  pointwise [shares]
  rfl

/-- The shares of a row that holds the kept probabilities in descending order. -/
theorem shares_row (p : Fin 64 → EReal) (u : FVec Ideal S2x2048x64 .f32) (b : Fin 2) (t : Fin 2048)
    (hu : ∀ s, u (ix3 b t s) = if s.val < kst p then desc p s else 0) (s : Fin 64) :
    shares u (ix3 b t s) = if s.val < kst p then Ideal.div (desc p s) (norm p) else 0 := by
  rw [shares_apply, Finset.sum_congr rfl fun s _ => hu s, hu]
  have hn : max (∑ s : Fin 64, if s.val < kst p then desc p s else 0) tiny = norm p := by
    rw [norm_eq]
  rw [hn]
  by_cases h : s.val < kst p
  · rw [if_pos h, if_pos h]
  · rw [if_neg h, if_neg h, nil_div (norm_pos _)]

/-- One where a mask is above zero. -/
def positive (m : FVec Ideal S2x2048x64 .f32) : FVec Ideal S2x2048x64 .f32 :=
  uitofp .f32 (cmpf .ogt m (broadcastInDim S2x2048x64 ![] bcast_S_S2x2048x64 (constant S_ .f32 0x00000000#32)))

/-- A mask of gates is positive exactly where a gate is one. -/
theorem positive_apply (m : FVec Ideal S2x2048x64 .f32) (p : Fin 64 → EReal) (b : Fin 2) (t : Fin 2048) (e : Fin 64)
    (hm : m (ix3 b t e) = gate p e) : positive m (ix3 b t e) = gate p e := by
  show (((Ideal.cmp .ogt (m (ix3 b t e)) (Ideal.ofBits .f32 0x00000000#32)).toNat : ℝ) : EReal) = _
  rw [hm, bits_zero]
  by_cases h : Take p e
  · rw [gate_of h]
    have : Ideal.cmp .ogt (1 : EReal) 0 = 1#1 := by
      show BitVec.ofBool (decide ((0 : EReal) < 1)) = 1#1
      simp
    rw [this]; simp
  · rw [gate_of_not h]
    have : Ideal.cmp .ogt (0 : EReal) 0 = 0#1 := by
      show BitVec.ofBool (decide ((0 : EReal) < 0)) = 0#1
      simp
    rw [this]; simp

/-- The weights per expert, from the masks and the kept probabilities. -/
def weights (m : FVec Ideal S2x2048x64 .f32) (i : IVec S2x2048x64x3 32) (u : FVec Ideal S2x2048x64 .f32) : FVec Ideal S2x2048x64 .f32 :=
  mulf (byExpert i (shares u)) (positive m)

/-- The weight of an expert. -/
theorem weights_row (p : Fin 2 → Fin 2048 → Fin 64 → EReal) (i : IVec S2x2048x64x3 32) (u m : FVec Ideal S2x2048x64 .f32)
    (h0 : ∀ b t s, (i (ix4 b t s (0 : Fin 3))).toInt = (b.val : Int)) (h1 : ∀ b t s, (i (ix4 b t s (1 : Fin 3))).toInt = (t.val : Int))
    (h2 : ∀ b t s, (i (ix4 b t s (2 : Fin 3))).toInt = ((if s.val < kst (p b t) then atPlace (p b t) s else 0).val : Int))
    (b : Fin 2) (t : Fin 2048) (e : Fin 64) (hu : ∀ s, u (ix3 b t s) = if s.val < kst (p b t) then desc (p b t) s else 0)
    (hm : m (ix3 b t e) = gate (p b t) e) : weights m i u (ix3 b t e) = wgt (p b t) e := by
  show byExpert i (shares u) (ix3 b t e) * positive m (ix3 b t e) = _
  rw [positive_apply m (p b t) b t e hm,
    byExpert_apply p i (shares u) (fun s => Ideal.div (desc (p b t) s) (norm (p b t))) h0 h1 h2 b t e (shares_row (p b t) u b t hu)]
  by_cases h : Take (p b t) e
  · rw [if_pos (show rank (p b t) e < kst (p b t) from h), gate_of h, wgt_of h]
    unfold desc
    rw [atPlace_rank, mul_one]
  · rw [if_neg (show ¬rank (p b t) e < kst (p b t) from h), wgt_of_not h, zero_mul]

/-! ## The computation's own arrays -/

/-- The mask of an expert. -/
theorem v70_apply (b : Fin 2) (t : Fin 2048) (e : Fin 64) : (res_main_v70 V : S2x2048x64.Idx → EReal) (ix3 b t e) = gate (P V b t) e := by
  have h : (res_main_v70 V : S2x2048x64.Idx → EReal)
      = byExpert (words3 (res_main_v45 V) (res_main_v48 V) (res_main_v42 V)) (valid (res_main_v31 V)) := rfl
  obtain ⟨h0, h1, h2⟩ := words_v42 V
  rw [h]
  generalize words3 (res_main_v45 V) (res_main_v48 V) (res_main_v42 V) = i at h0 h1 h2 ⊢
  have hv := v31_apply V b t
  generalize res_main_v31 V = v at hv ⊢
  refine (byExpert_apply (P V) i (valid v) (fun _ => 1) h0 h1 h2 b t e (valid_apply (P V b t) v b t fun s => (hv s).trans (by congr))).trans ?_
  unfold gate Take
  congr

/-- The weight of an expert. -/
theorem weights_apply (b : Fin 2) (t : Fin 2048) (e : Fin 64) :
    weights (res_main_v70 V) (words3 (res_main_v45 V) (res_main_v48 V) (res_main_v42 V)) (res_main_v32 V) (ix3 b t e) = wgt (P V b t) e := by
  obtain ⟨h0, h1, h2⟩ := words_v42 V
  generalize words3 (res_main_v45 V) (res_main_v48 V) (res_main_v42 V) = i at h0 h1 h2 ⊢
  have hu := v32_apply V b t
  generalize res_main_v32 V = u at hu ⊢
  have hm := v70_apply V b t e
  generalize res_main_v70 V = m at hm ⊢
  exact weights_row (P V) i u m h0 h1 h2 b t e (fun s => (hu s).trans (by congr)) hm

end Cert.ReferenceIdeal.Hand

end
-- ==== Proof.Reference.Places.lean ====
module

public import proofs.«01_k».proof.Proof.Reference.Masks

/-! # The reference's queues -/

@[expose] public section

set_option maxRecDepth 16384

noncomputable section

namespace Cert.ReferenceIdeal.Hand
open Cert.ReferenceIdeal Cert.ReferenceIdeal.Gen Cert.ReferenceIdeal.Value Cert.Router
open Idealize.ShloMosaic Idealize.ShloMosaic.TcCoe Idealize.ShloMosaic.Routing

variable (V : Valuation τ sig (Elt Ideal))

/-- The masks with the tokens along the last axis. -/
def turned (m : FVec Ideal S2x2048x64 .f32) : FVec Ideal S2x64x2048 .f32 := transpose S2x64x2048 [0, 2, 1] m transposes_S2x2048x64_S2x64x2048_0_2_1

/-- The turned array, at an element. -/
theorem turned_apply (m : FVec Ideal S2x2048x64 .f32) (b : Fin 2) (e : Fin 64) (t : Fin 2048) : turned m (ix3 b e t) = m (ix3 b t e) := by
  pointwise [turned]

/-- The running counts over the tokens. -/
def running (u : FVec Ideal S2x64x2048 .f32) : FVec Ideal S2x64x2048 .f32 :=
  Host.reduceWindowAdd ![1, 1, 2048] ![1, 1, 1] ![0, 0, 2047] ![0, 0, 0] u (broadcastInDim S_ ![] bcast_S_S_ (constant S_ .f32 0x00000000#32))
    reduceWindows_S2x64x2048_S2x64x2048_w1s1p0_0_w1s1p0_0_w2048s1p2047_0 h_S_

/-- A windowed sum over the reals. -/
theorem window_add {A B N M : ℕ} (x : FVec Ideal ⟨3, ![A, B, N]⟩ .f32) {u : Shape} (v : u.Idx → EReal)
    (h : (⟨3, ![A, B, N]⟩ : Shape).ReduceWindows ![1, 1, N] ![1, 1, 1] ![0, 0, M] ![0, 0, 0] ⟨3, ![A, B, N]⟩) (hu : 0 < u.numel) :
    (Host.reduceWindowAdd (F := Ideal) (φ := .f32) ![1, 1, N] ![1, 1, 1] ![0, 0, M] ![0, 0, 0] x v h hu : (⟨3, ![A, B, N]⟩ : Shape).Idx → EReal)
      = Ideal.hostReduceWindowAdd ![1, 1, N] ![1, 1, 1] ![0, 0, M] ![0, 0, 0] h x (v (Shape.Idx.first hu)) := rfl

/-- A running count is the sum up to the token. -/
theorem running_apply (u : FVec Ideal S2x64x2048 .f32) (b : Fin 2) (e : Fin 64) (t : Fin 2048) :
    running u (ix3 b e t) = ∑ i : Fin 2048, if i ≤ t then u (ix3 b e i) else 0 := by
  unfold running
  refine (congrFun (window_add (N := 2048) (M := 2047) u (broadcastInDim S_ ![] bcast_S_S_ (constant (F := Ideal) S_ .f32 0x00000000#32))
    reduceWindows_S2x64x2048_S2x64x2048_w1s1p0_0_w1s1p0_0_w2048s1p2047_0 h_S_) (ix3 b e t)).trans ?_
  exact cumsum_last (N := 2048) (M := 2047) (by norm_num) u _ bits_zero reduceWindows_S2x64x2048_S2x64x2048_w1s1p0_0_w1s1p0_0_w2048s1p2047_0 b e t

/-- The running counts without the token itself. -/
def lengths (u : FVec Ideal S2x64x2048 .f32) : FVec Ideal S2x2048x64 .f32 :=
  transpose S2x2048x64 [0, 2, 1] (subf (running u) u) transposes_S2x64x2048_S2x2048x64_0_2_1

/-- A queue length is the running count less the token itself. -/
theorem lengths_apply (u : FVec Ideal S2x64x2048 .f32) (b : Fin 2) (t : Fin 2048) (e : Fin 64) :
    lengths u (ix3 b t e) = running u (ix3 b e t) - u (ix3 b e t) := by
  pointwise [lengths]

/-- The sum up to a token has the token's own number on top of the sum before it. -/
theorem sum_upto (g : Fin 2048 → EReal) (t : Fin 2048) :
    (∑ i : Fin 2048, if i ≤ t then g i else 0) = (∑ i : Fin 2048, if i.val < t.val then g i else 0) + g t := by
  have h : ∀ i : Fin 2048, (if i ≤ t then g i else 0) = (if i.val < t.val then g i else 0) + (if i = t then g i else 0) := by
    intro i
    rcases lt_trichotomy i.val t.val with h | h | h
    · rw [if_pos (show i ≤ t from Fin.le_def.mpr h.le), if_pos h, if_neg fun q => absurd (congrArg Fin.val q) h.ne, add_zero]
    · rw [if_pos (show i ≤ t from Fin.le_def.mpr h.le), if_neg h.not_lt, if_pos (Fin.ext h), zero_add]
    · rw [if_neg fun q => absurd (Fin.le_def.mp q) (not_le.mpr h), if_neg (not_lt.mpr h.le), if_neg fun q => absurd (congrArg Fin.val q) h.ne', add_zero]
  rw [Finset.sum_congr rfl fun i _ => h i, Finset.sum_add_distrib, Finset.sum_ite_eq' Finset.univ, if_pos (Finset.mem_univ _)]

/-- The earlier tokens that go to an expert. -/
theorem queue_row (p : Fin 2048 → Fin 64 → EReal) (m : FVec Ideal S2x2048x64 .f32) (b : Fin 2) (hm : ∀ t e, m (ix3 b t e) = gate (p t) e)
    (t : Fin 2048) (e : Fin 64) : lengths (turned m) (ix3 b t e) = ((queue p t.val e : ℝ) : EReal) := by
  rw [lengths_apply, running_apply, turned_apply, hm]
  have h : (∑ i : Fin 2048, if i ≤ t then turned m (ix3 b e i) else 0) = ((queue p t.val e : ℝ) : EReal) + gate (p t) e := by
    rw [queue_eq_sum, ← sum_upto (fun i => gate (p i) e) t]
    exact Finset.sum_congr rfl fun i _ => by rw [turned_apply, hm]
  rw [h]
  by_cases ht : Take (p t) e
  · rw [gate_of ht, ← EReal.coe_one, ← EReal.coe_add, ← EReal.coe_sub, add_sub_cancel_right]
  · rw [gate_of_not ht, ← EReal.coe_zero, ← EReal.coe_add, ← EReal.coe_sub, add_sub_cancel_right]

/-- Places in the queue for the tokens that get one, 40 for the others. -/
def slots (q m : FVec Ideal S2x2048x64 .f32) : IVec S2x2048x64 32 :=
  select (andi (cmpf .olt q (broadcastInDim S2x2048x64 ![] bcast_S_S2x2048x64 (constant S_ .f32 0x42200000#32))) (cmpf .ogt m (broadcastInDim S2x2048x64 ![] bcast_S_S2x2048x64 (constant S_ .f32 0x00000000#32))))
    (fptosi 32 (minimumf q (broadcastInDim S2x2048x64 ![] bcast_S_S2x2048x64 (constant S_ .f32 0x421C0000#32))))
    (broadcastInDim S2x2048x64 ![] bcast_S_S2x2048x64 (id (constantI S_ 32 40#32)))

/-- A small count as a word. -/
theorem count_word (n : ℕ) (hn : n < 40) : Ideal.fptosi 32 (min ((n : ℝ) : EReal) ((39 : ℝ) : EReal)) = BitVec.ofNat 32 n := by
  have h : min ((n : ℝ) : EReal) ((39 : ℝ) : EReal) = ((n : ℝ) : EReal) := min_eq_left (EReal.coe_le_coe_iff.mpr (by exact_mod_cast (by omega : n ≤ 39)))
  rw [h]
  unfold Ideal.fptosi
  have h2 : Ideal.toIntClamped (-(2 ^ (32 - 1) : Nat)) ((2 ^ (32 - 1) : Nat) - 1) ((n : ℝ) : EReal) = (n : Int) := by
    show max _ (min _ (if (0 : ℝ) ≤ (n : ℝ) then ⌊(n : ℝ)⌋ else ⌈(n : ℝ)⌉)) = _
    rw [if_pos (Nat.cast_nonneg n), Int.floor_natCast]
    norm_num
    omega
  rw [h2]
  exact BitVec.ofInt_natCast 32 n

open Classical in
/-- A token gets its queue length as its place if it takes the expert and the queue is short enough, else 40. -/
theorem slots_row (p : Fin 2048 → Fin 64 → EReal) (q m : FVec Ideal S2x2048x64 .f32) (b : Fin 2) (t : Fin 2048) (e : Fin 64)
    (hq : q (ix3 b t e) = ((queue p t.val e : ℝ) : EReal)) (hm : m (ix3 b t e) = gate (p t) e) :
    slots q m (ix3 b t e) = BitVec.ofNat 32 (if Take (p t) e ∧ queue p t.val e < 40 then queue p t.val e else 40) := by
  show Scalar.select (IntOp.andi (Ideal.cmp .olt (q (ix3 b t e)) (Ideal.ofBits .f32 0x42200000#32)) (Ideal.cmp .ogt (m (ix3 b t e)) (Ideal.ofBits .f32 0x00000000#32)))
    (Ideal.fptosi 32 (min (q (ix3 b t e)) (Ideal.ofBits .f32 0x421C0000#32))) 40#32 = _
  rw [hq, hm, bits_forty, bits_zero, bits_39]
  have ho : Ideal.cmp .olt ((queue p t.val e : ℝ) : EReal) ((40 : ℝ) : EReal) = BitVec.ofBool (decide (queue p t.val e < 40)) := by
    show BitVec.ofBool (decide (((queue p t.val e : ℝ) : EReal) < ((40 : ℝ) : EReal))) = _
    congr 2
    rw [EReal.coe_lt_coe_iff]
    exact propext (by exact_mod_cast Iff.rfl)
  have hg : Ideal.cmp .ogt (gate (p t) e) 0 = BitVec.ofBool (decide (Take (p t) e)) := by
    show BitVec.ofBool (decide ((0 : EReal) < gate (p t) e)) = _
    by_cases h : Take (p t) e
    · rw [gate_of h]; simp [h]
    · rw [gate_of_not h]; simp [h]
  rw [ho, hg]
  by_cases h1 : queue p t.val e < 40 <;> by_cases h2 : Take (p t) e
  · rw [if_pos ⟨h2, h1⟩, decide_eq_true h1, decide_eq_true h2, count_word _ h1]; rfl
  · rw [if_neg fun h => h2 h.1, decide_eq_false h2]; simp [Scalar.select, IntOp.andi]
  · rw [if_neg fun h => h1 h.2, decide_eq_false h1]; simp [Scalar.select, IntOp.andi]
  · rw [if_neg fun h => h1 h.2, decide_eq_false h1]; simp [Scalar.select, IntOp.andi]

/-! ## The computation's own arrays -/

/-- The earlier tokens at an expert. -/
theorem v99_apply (b : Fin 2) (t : Fin 2048) (e : Fin 64) : (res_main_v99 V : S2x2048x64.Idx → EReal) (ix3 b t e) = ((queue (P V b) t.val e : ℝ) : EReal) := by
  have h : (res_main_v99 V : S2x2048x64.Idx → EReal) = lengths (turned (res_main_v70 V)) := rfl
  rw [h]
  have hm := v70_apply V b
  generalize res_main_v70 V = m at hm ⊢
  exact queue_row (P V b) m b hm t e

open Classical in
/-- The places. -/
theorem v111_apply (b : Fin 2) (t : Fin 2048) (e : Fin 64) : (res_main_v111 V : S2x2048x64.Idx → BitVec 32) (ix3 b t e)
    = BitVec.ofNat 32 (if Take (P V b t) e ∧ queue (P V b) t.val e < 40 then queue (P V b) t.val e else 40) := by
  have h : (res_main_v111 V : S2x2048x64.Idx → BitVec 32) = slots (res_main_v99 V) (res_main_v70 V) := rfl
  rw [h]
  have hm := v70_apply V b t e
  have hq := v99_apply V b t e
  generalize res_main_v99 V = q at hq ⊢
  generalize res_main_v70 V = m at hm ⊢
  exact slots_row (P V b) q m b t e hq hm

end Cert.ReferenceIdeal.Hand

end
-- ==== Proof.Reference.Results.lean ====
module

public import proofs.«01_k».proof.Proof.Reference.Places
public import proofs.«01_k».proof.Proof.Router.Spec

/-! # The reference's three results -/

@[expose] public section

set_option maxRecDepth 16384

noncomputable section

namespace Cert.ReferenceIdeal.Hand
open Cert.ReferenceIdeal Cert.ReferenceIdeal.Gen Cert.ReferenceIdeal.Value Cert.Router
open Idealize.ShloMosaic Idealize.ShloMosaic.TcCoe Idealize.ShloMosaic.Routing

variable (V : Valuation τ sig (Elt Ideal))

/-! ## Writing at the places -/

/-- The numbers written at their experts and places. -/
def placed (i : IVec S2x2048x64x4 32) (u : FVec Ideal S2x2048x64 .f32) : FVec Ideal S2x2048x64x40 .f32 :=
  Host.scatter scatter_S2x2048x64x40_S2x2048x64x4_S2x2048x64_n_0123_0123_3 (fun _ b => b) (broadcastInDim S2x2048x64x40 ![] bcast_S_S2x2048x64x40 (constant S_ .f32 0x00000000#32)) i u

/-- A number stands at its place and nowhere else. -/
theorem placed_apply (i : IVec S2x2048x64x4 32) (u : FVec Ideal S2x2048x64 .f32) (n : Fin 2 → Fin 2048 → Fin 64 → ℕ)
    (h0 : ∀ b t s, (i (ix4 b t s (0 : Fin 4))).toInt = (b.val : Int)) (h1 : ∀ b t s, (i (ix4 b t s (1 : Fin 4))).toInt = (t.val : Int))
    (h2 : ∀ b t s, (i (ix4 b t s (2 : Fin 4))).toInt = (s.val : Int)) (h3 : ∀ b t s, (i (ix4 b t s (3 : Fin 4))).toInt = (n b t s : Int))
    (b : Fin 2) (t : Fin 2048) (e : Fin 64) (k : Fin 40) :
    placed i u (ix4 b t e k) = if n b t e = k.val then u (ix3 b t e) else 0 := by
  have key : ∀ (b' : Fin 2) (t' : Fin 2048) (s : Fin 64), scatter_S2x2048x64x40_S2x2048x64x4_S2x2048x64_n_0123_0123_3.resultIdx? (ix3 b' t' s) i = some (ix4 b t e k)
      ↔ b' = b ∧ t' = t ∧ s = e ∧ n b' t' s = k.val := by
    intro b' t' s
    rw [lands4, h0, h1, h2, h3, Fin.ext_iff, Fin.ext_iff, Fin.ext_iff]
    omega
  by_cases h : n b t e = k.val
  · rw [if_pos h]
    refine scatter_set_hit _ _ i u (ix4 b t e k) (u (ix3 b t e)) (fun j hj => ?_) (ix3 b t e) ((key b t e).mpr ⟨rfl, rfl, rfl, h⟩)
    obtain ⟨b', t', s, rfl⟩ : ∃ (b' : Fin 2) (t' : Fin 2048) (s : Fin 64), j = ix3 b' t' s := ⟨j 0, j 1, j 2, eq_ix3 j⟩
    obtain ⟨rfl, rfl, rfl, _⟩ := (key b' t' s).mp hj
    rfl
  · rw [if_neg h]
    refine (scatter_set_miss _ _ i u (ix4 b t e k) fun j hj => ?_).trans bits_zero
    obtain ⟨b', t', s, rfl⟩ : ∃ (b' : Fin 2) (t' : Fin 2048) (s : Fin 64), j = ix3 b' t' s := ⟨j 0, j 1, j 2, eq_ix3 j⟩
    obtain ⟨rfl, rfl, rfl, q⟩ := (key b' t' s).mp hj
    exact h q

open Classical in
/-- A token's place at an expert, 40 without one. -/
def placeOf (P : Fin 2 → Fin 2048 → Fin 64 → EReal) (b : Fin 2) (t : Fin 2048) (e : Fin 64) : ℕ :=
  if Take (P b t) e ∧ queue (P b) t.val e < 40 then queue (P b) t.val e else 40

/-- A place is at most 40. -/
theorem placeOf_le (P : Fin 2 → Fin 2048 → Fin 64 → EReal) (b : Fin 2) (t : Fin 2048) (e : Fin 64) : placeOf P b t e ≤ 40 := by
  unfold placeOf
  split
  · rename_i h; exact h.2.le
  · exact le_rfl

/-- A token has the place `k` exactly when it is sent there. -/
theorem placeOf_iff (P : Fin 2 → Fin 2048 → Fin 64 → EReal) (b : Fin 2) (t : Fin 2048) (e : Fin 64) (k : Fin 40) :
    placeOf P b t e = k.val ↔ Sent (P b) t e k := by
  have hk := k.isLt
  unfold placeOf Sent
  by_cases h : Take (P b t) e ∧ queue (P b) t.val e < 40
  · rw [if_pos h]; exact ⟨fun q => ⟨h.1, q⟩, fun q => q.2⟩
  · rw [if_neg h]
    exact ⟨fun q => by omega, fun q => (h ⟨q.1, by omega⟩).elim⟩

/-- The index words of the two scatters. -/
theorem words_v111 : (∀ b t s, (words4 (res_main_v45 V) (res_main_v48 V) (res_main_v110 V) (res_main_v111 V) (ix4 b t s (0 : Fin 4))).toInt = (b.val : Int))
    ∧ (∀ b t s, (words4 (res_main_v45 V) (res_main_v48 V) (res_main_v110 V) (res_main_v111 V) (ix4 b t s (1 : Fin 4))).toInt = (t.val : Int))
    ∧ (∀ b t s, (words4 (res_main_v45 V) (res_main_v48 V) (res_main_v110 V) (res_main_v111 V) (ix4 b t s (2 : Fin 4))).toInt = (s.val : Int))
    ∧ ∀ b t s, (words4 (res_main_v45 V) (res_main_v48 V) (res_main_v110 V) (res_main_v111 V) (ix4 b t s (3 : Fin 4))).toInt = (placeOf (P V) b t s : Int) := by
  refine ⟨fun b t s => ?_, fun b t s => ?_, fun b t s => ?_, fun b t s => ?_⟩
  · rw [(words4_apply _ _ _ _ b t s).1]
    exact wrapBy_apply _ _ b t s _ (by have := b.isLt; omega) (v45_apply V b t s)
  · rw [(words4_apply _ _ _ _ b t s).2.1]
    exact wrapBy_apply _ _ b t s _ (by have := t.isLt; omega) (v48_apply V b t s)
  · rw [(words4_apply _ _ _ _ b t s).2.2.1]
    exact wrapBy_apply _ _ b t s _ (by have := s.isLt; omega) (v110_apply V b t s)
  · rw [(words4_apply _ _ _ _ b t s).2.2.2]
    exact wrapBy_apply _ _ b t s _ (lt_of_le_of_lt (placeOf_le _ b t s) (by norm_num)) (v111_apply V b t s)

/-- The first result: one for a sent token. -/
theorem dispatch_apply (b : Fin 2) (t : Fin 2048) (e : Fin 64) (k : Fin 40) :
    placed (words4 (res_main_v45 V) (res_main_v48 V) (res_main_v110 V) (res_main_v111 V))
      (broadcastInDim S2x2048x64 ![] bcast_S_S2x2048x64 (constant (F := Ideal) S_ .f32 0x3F800000#32)) (ix4 b t e k) = dispSpec (P V) b t e k := by
  obtain ⟨h0, h1, h2, h3⟩ := words_v111 V
  generalize words4 (res_main_v45 V) (res_main_v48 V) (res_main_v110 V) (res_main_v111 V) = i at h0 h1 h2 h3 ⊢
  rw [placed_apply i _ (placeOf (P V)) h0 h1 h2 h3]
  unfold dispSpec
  by_cases h : Sent (P V b) t e k
  · rw [if_pos ((placeOf_iff _ b t e k).mpr h), if_pos h]
    exact bits_one
  · rw [if_neg fun q => h ((placeOf_iff _ b t e k).mp q), if_neg h]

/-- The second result: the weight of a sent token. -/
theorem combine_apply (b : Fin 2) (t : Fin 2048) (e : Fin 64) (k : Fin 40) :
    placed (words4 (res_main_v45 V) (res_main_v48 V) (res_main_v110 V) (res_main_v111 V))
      (weights (res_main_v70 V) (words3 (res_main_v45 V) (res_main_v48 V) (res_main_v42 V)) (res_main_v32 V)) (ix4 b t e k) = combSpec (P V) b t e k := by
  obtain ⟨h0, h1, h2, h3⟩ := words_v111 V
  generalize words4 (res_main_v45 V) (res_main_v48 V) (res_main_v110 V) (res_main_v111 V) = i at h0 h1 h2 h3 ⊢
  have hw := weights_apply V b t e
  generalize weights (res_main_v70 V) (words3 (res_main_v45 V) (res_main_v48 V) (res_main_v42 V)) (res_main_v32 V) = w at hw ⊢
  rw [placed_apply i _ (placeOf (P V)) h0 h1 h2 h3, hw]
  unfold combSpec
  by_cases h : Sent (P V b) t e k
  · rw [if_pos ((placeOf_iff _ b t e k).mpr h), if_pos h]
  · rw [if_neg fun q => h ((placeOf_iff _ b t e k).mp q), if_neg h]

/-! ## The loss -/

/-- The means over the tokens. -/
def means (x : FVec Ideal S2x2048x64 .f32) : FVec Ideal S2x64 .f32 :=
  Host.divf (Host.reduceAdd x (constant S_ .f32 0x00000000#32) reducesTo_S2x2048x64_S2x64_d1 h_S_) (broadcastInDim S2x64 ![] bcast_S_S2x64 (constant S_ .f32 0x45000000#32))

/-- The mean of a column. -/
theorem means_apply (x : FVec Ideal S2x2048x64 .f32) (b : Fin 2) (e : Fin 64) :
    means x (ix2 b e) = Ideal.div (∑ t, x (ix3 b t e)) ((2048 : ℝ) : EReal) := by
  pointwise [means]
  rw [bits_2048]

/-- The loss from the masks and the probabilities. -/
def lossOf (g x : FVec Ideal S2x2048x64 .f32) : FVec Ideal S_ .f32 :=
  mulf (Host.divf (Host.reduceAdd (mulf (means g) (means x)) (constant S_ .f32 0x00000000#32) reducesTo_S2x64_S_d0_1 h_S_) (constant S_ .f32 0x43000000#32)) (constant S_ .f32 0x45800000#32)

/-- The loss as a sum over batches and experts. -/
theorem lossOf_apply (g x : FVec Ideal S2x2048x64 .f32) (j : S_.Idx) :
    lossOf g x j = Ideal.div (∑ b, ∑ e, means g (ix2 b e) * means x (ix2 b e)) ((128 : ℝ) : EReal) * ((4096 : ℝ) : EReal) := by
  obtain rfl : j = ix0 := Subsingleton.elim _ _
  pointwise [lossOf]
  rw [bits_128, bits_4096]

/-- A nonnegative real factor comes out of a sum. -/
theorem sum_scale {ι : Type} (s : Finset ι) (f : ι → EReal) (c : ℝ) (hc : 0 ≤ c) : (∑ i ∈ s, f i * (c : EReal)) = (∑ i ∈ s, f i) * (c : EReal) := by
  classical
  induction s using Finset.induction_on with
  | empty => simp
  | insert a s ha ih =>
    rw [Finset.sum_insert ha, Finset.sum_insert ha, ih, EReal.right_distrib_of_nonneg_of_ne_top (EReal.coe_nonneg.mpr hc) (EReal.coe_ne_top c)]

/-- Dividing by a positive real is multiplying by its inverse. -/
theorem div_real (x : EReal) (c : ℝ) (hc : 0 < c) : Ideal.div x (c : EReal) = x * ((1 / c : ℝ) : EReal) := by
  unfold Ideal.div
  rw [if_neg (by exact_mod_cast hc.ne'), ← EReal.coe_inv, one_div]

/-- The loss of masks and probabilities. -/
theorem loss_row (P : Fin 2 → Fin 2048 → Fin 64 → EReal) (g x : FVec Ideal S2x2048x64 .f32) (hg : ∀ b t e, g (ix3 b t e) = gate (P b t) e)
    (hx : ∀ b t e, x (ix3 b t e) = P b t e) (j : S_.Idx) : lossOf g x j = lossSpec P := by
  rw [lossOf_apply, div_real _ _ (by norm_num)]
  have h : ∀ b e, means g (ix2 b e) * means x (ix2 b e) = ((∑ t, gate (P b t) e) * (∑ t, P b t e)) * ((1 / 2048 * (1 / 2048) : ℝ) : EReal) := by
    intro b e
    rw [means_apply, means_apply, div_real _ _ (by norm_num), div_real _ _ (by norm_num), mul_mul_mul_comm, ← EReal.coe_mul]
    simp only [hg, hx]
  simp only [h]
  rw [Finset.sum_congr rfl fun b _ => sum_scale Finset.univ (fun e => (∑ t, gate (P b t) e) * (∑ t, P b t e)) _ (by norm_num)]
  rw [sum_scale Finset.univ _ _ (by norm_num), mul_assoc, mul_assoc, ← EReal.coe_mul, ← EReal.coe_mul]
  unfold lossSpec lossRow
  rw [Fin.sum_univ_two, EReal.right_distrib_of_nonneg_of_ne_top (EReal.coe_nonneg.mpr (by norm_num)) (EReal.coe_ne_top _)]
  norm_num

/-- The third result: the loss. -/
theorem loss_apply (j : S_.Idx) : lossOf (res_main_v70 V) (res_main_v11 V) j = lossSpec (P V) := by
  have hg := v70_apply V
  have hx := v11_apply V
  generalize res_main_v70 V = g at hg ⊢
  generalize res_main_v11 V = x at hx ⊢
  exact loss_row (P V) g x hg hx j

end Cert.ReferenceIdeal.Hand

end
-- ==== Proof.Reference.Final.lean ====
module

public import proofs.«01_k».proof.Proof.Reference.Results

/-! # The reference's run -/

@[expose] public section

set_option maxRecDepth 16384

noncomputable section

namespace Cert.ReferenceIdeal.Hand
open Cert.ReferenceIdeal Cert.ReferenceIdeal.Gen Cert.ReferenceIdeal.Value Cert.Router
open Idealize.ShloMosaic Idealize.ShloMosaic.TcCoe Idealize.SL.Sem Idealize.ShloMosaic.StableHlo

variable (V : Valuation τ sig (Elt Ideal))

/-- The three results. -/
def dispOut : Vec Ideal S2x2048x64x40 .f32 := fun i => dispSpec (P V) (i 0) (i 1) (i 2) (i 3)
def combOut : Vec Ideal S2x2048x64x40 .f32 := fun i => combSpec (P V) (i 0) (i 1) (i 2) (i 3)
def lossOut : Vec Ideal S_ .f32 := fun _ => lossSpec (P V)

/-- The first result, as an array. -/
theorem dispatch_all : placed (words4 (res_main_v45 V) (res_main_v48 V) (res_main_v110 V) (res_main_v111 V))
    (broadcastInDim S2x2048x64 ![] bcast_S_S2x2048x64 (constant (F := Ideal) S_ .f32 0x3F800000#32)) = dispOut V :=
  funext fun i => (congrArg _ (eq_ix4 i)).trans (dispatch_apply V (i 0) (i 1) (i 2) (i 3))

/-- The second result, as an array. -/
theorem combine_all : placed (words4 (res_main_v45 V) (res_main_v48 V) (res_main_v110 V) (res_main_v111 V))
    (weights (res_main_v70 V) (words3 (res_main_v45 V) (res_main_v48 V) (res_main_v42 V)) (res_main_v32 V)) = combOut V :=
  funext fun i => (congrArg _ (eq_ix4 i)).trans (combine_apply V (i 0) (i 1) (i 2) (i 3))

/-- The third result, as an array. -/
theorem loss_all : lossOf (res_main_v70 V) (res_main_v11 V) = lossOut V := funext fun j => loss_apply V j

/-- The reference's run: the three results hold what the router computes, and the arguments end as they were. -/
theorem results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v139) = dispOut (launchContents m c)
      ∧ r.2.mem ((c.tc : Thread nD τ).loc main_v166) = combOut (launchContents m c)
      ∧ r.2.mem ((c.tc : Thread nD τ).loc main_v176) = lossOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (dispatch_all (launchContents m c)), (h c).2.1.trans (combine_all (launchContents m c)),
    (h c).2.2.1.trans (loss_all (launchContents m c)), (h c).2.2.2⟩) (Cert.ReferenceIdeal.Value.run (F := Ideal) m ρ)

end Cert.ReferenceIdeal.Hand

end
-- ==== Proof.lean ====
/- The certificate's claims, put together from the modules that prove them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Machine.Run
public import proofs.«01_k».proof.Proof.Router.Run
public import proofs.«01_k».proof.Proof.Gen.ReferenceIdeal.Run
public import proofs.«01_k».proof.Proof.Router.Final
public import proofs.«01_k».proof.Proof.Reference.Final
public import Idealize.ShloMosaic.Adequacy
public import Idealize.ShloMosaic.Init

@[expose] public section

set_option maxRecDepth 16384

noncomputable section

namespace Cert.Proof

open Idealize.ShloMosaic Idealize.SL.Sem Idealize.ShloMosaic.StableHlo

/-- The reference runs to the end with its arguments unchanged; it has no semaphore. -/
theorem reference_runs : Cert.quiescent_ReferenceIdeal := by
  intro m ρ _
  exact (θ_run Cert.ReferenceIdeal.defs _ _).mono (fun r h => ⟨fun c => ⟨(h c).2.2.2.1, (h c).2.2.2.2⟩,
    sem_eq_zero_of_no_sems (by decide) r.2⟩) (Cert.ReferenceIdeal.Value.run (F := Ideal) m ρ)

/-- Memories that agree on the two arguments give both programs the same probabilities. -/
theorem probs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Hand.P (launchContents m' c) = Cert.KernelIdeal.Hand.P m c :=
  congrArg₂ Cert.Router.probs h0 h1

/-- Over the extended reals the kernel and the reference end with the same three results. -/
theorem same_results : Cert.algebraic_KernelIdeal_ReferenceIdeal := by
  intro m g m' g' _ hargs
  refine ⟨Cert.KernelIdeal.Hand.dispOut m, Cert.KernelIdeal.Hand.combOut m, Cert.KernelIdeal.Hand.lossOut m, Cert.KernelIdeal.Hand.results m g, ?_⟩
  refine (θ_run Cert.ReferenceIdeal.defs _ _).mono (fun r h c => ?_) (Cert.ReferenceIdeal.Hand.results m' g')
  have hP := probs_eq m m' c (hargs c).1 (hargs c).2
  obtain ⟨h0, h1, h2, h3⟩ := h c
  unfold Cert.ReferenceIdeal.Hand.dispOut at h0
  unfold Cert.ReferenceIdeal.Hand.combOut at h1
  unfold Cert.ReferenceIdeal.Hand.lossOut at h2
  rw [hP] at h0 h1 h2
  exact ⟨h0, h1, h2, h3⟩

/-- All the claims of the certificate. -/
theorem claim : Cert.Claim := ⟨Cert.Kernel.Gen.facts, Cert.KernelIdeal.Gen.facts, Cert.ReferenceIdeal.Gen.facts,
  fun m ρ _ => Cert.Kernel.Hand.unchanged m ρ, fun m ρ _ => Cert.KernelIdeal.Hand.unchanged m ρ, reference_runs, trivial, same_results⟩

end Cert.Proof

end
